-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_scan_pre [hPre_scan_pre : Cert.Pre_scan_pre.Facts] (m : (ℓ : Loc Cert.ScanIdeal.nD Cert.ScanIdeal.τ Cert.ScanIdeal.sig) → Buf (Elt Ideal) ℓ) : Prop :=
  ∀ c : Dev Cert.ScanIdeal.nD,
    (Cert.Pre_scan_pre.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_scan_pre [hPre_scan_pre : Cert.Pre_scan_pre.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_scan_pre.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8))) = (fun _ => 1#1)

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_GlaOut (m : (ℓ : Loc Cert.GlaOut.nD Cert.GlaOut.τ Cert.GlaOut.sig) → Buf (Elt Bits) ℓ) : Prop :=
  True

def Pre_GlaOutIdeal (m : (ℓ : Loc Cert.GlaOutIdeal.nD Cert.GlaOutIdeal.τ Cert.GlaOutIdeal.sig) → Buf (Elt Ideal) ℓ) : Prop :=
  True

def Pre_GlaOutRefIdeal (m : (ℓ : Loc Cert.GlaOutRefIdeal.nD Cert.GlaOutRefIdeal.τ Cert.GlaOutRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def quiescent_ScanIdeal_pre_scan_pre [hScanIdeal : Cert.ScanIdeal.Facts] [hPre_scan_pre : Cert.Pre_scan_pre.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_scan_pre m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8))
      ∧ r.2.sem = fun _ => 0)

def quiescent_ScanRefIdeal_pre_scan_pre [hScanRefIdeal : Cert.ScanRefIdeal.Facts] [hPre_scan_pre : Cert.Pre_scan_pre.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_scan_pre m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3)
      ∧ r.2.mem ((c.tc : Thread Cert.GdnOut.nD Cert.GdnOut.τ).loc Cert.GdnOut.main_arg4) = m ((c.tc : Thread Cert.GdnOut.nD Cert.GdnOut.τ).loc Cert.GdnOut.main_arg4))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
      ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2)
      ∧ r.2.mem ((c.tc : Thread Cert.GdnOutRefIdeal.nD Cert.GdnOutRefIdeal.τ).loc Cert.GdnOutRefIdeal.main_arg3) = m ((c.tc : Thread Cert.GdnOutRefIdeal.nD Cert.GdnOutRefIdeal.τ).loc Cert.GdnOutRefIdeal.main_arg3)
      ∧ r.2.mem ((c.tc : Thread Cert.GdnOutRefIdeal.nD Cert.GdnOutRefIdeal.τ).loc Cert.GdnOutRefIdeal.main_arg4) = m ((c.tc : Thread Cert.GdnOutRefIdeal.nD Cert.GdnOutRefIdeal.τ).loc Cert.GdnOutRefIdeal.main_arg4))
      ∧ r.2.sem = fun _ => 0)

def quiescent_GlaOut [hGlaOut : Cert.GlaOut.Facts] : Prop :=
  ∀ (m : (ℓ : Loc Cert.GlaOut.nD Cert.GlaOut.τ Cert.GlaOut.sig) → Buf (Elt Bits) ℓ) (g : Dev Cert.GlaOut.nD → PrngReg), Pre_GlaOut m →
    θ_run (Cert.GlaOut.defs (F := Bits)) (onTc (τ := Cert.GlaOut.τ) (Cert.GlaOut.main (F := Bits))) ⟨m, fun _ => 0, g⟩ (fun r => (∀ c : Dev Cert.GlaOut.nD,
      r.2.mem ((c.tc : Thread Cert.GlaOut.nD Cert.GlaOut.τ).loc Cert.GlaOut.main_arg0) = m ((c.tc : Thread Cert.GlaOut.nD Cert.GlaOut.τ).loc Cert.GlaOut.main_arg0)
      ∧ r.2.mem ((c.tc : Thread Cert.GlaOut.nD Cert.GlaOut.τ).loc Cert.GlaOut.main_arg1) = m ((c.tc : Thread Cert.GlaOut.nD Cert.GlaOut.τ).loc Cert.GlaOut.main_arg1)
      ∧ r.2.mem ((c.tc : Thread Cert.GlaOut.nD Cert.GlaOut.τ).loc Cert.GlaOut.main_arg2) = m ((c.tc : Thread Cert.GlaOut.nD Cert.GlaOut.τ).loc Cert.GlaOut.main_arg2)
      ∧ r.2.mem ((c.tc : Thread Cert.GlaOut.nD Cert.GlaOut.τ).loc Cert.GlaOut.main_arg3) = m ((c.tc : Thread Cert.GlaOut.nD Cert.GlaOut.τ).loc Cert.GlaOut.main_arg3)
      ∧ r.2.mem ((c.tc : Thread Cert.GlaOut.nD Cert.GlaOut.τ).loc Cert.GlaOut.main_arg4) = m ((c.tc : Thread Cert.GlaOut.nD Cert.GlaOut.τ).loc Cert.GlaOut.main_arg4))
      ∧ r.2.sem = fun _ => 0)

def quiescent_GlaOutIdeal [hGlaOutIdeal : Cert.GlaOutIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg), Pre_GlaOutIdeal m →
    θ_run (Cert.GlaOutIdeal.defs (F := Ideal)) (onTc (τ := Cert.GlaOutIdeal.τ) (Cert.GlaOutIdeal.main (F := Ideal))) ⟨m, fun _ => 0, g⟩ (fun r => (∀ c : Dev Cert.GlaOutIdeal.nD,
      r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
      ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
      ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2)
      ∧ r.2.mem ((c.tc : Thread Cert.GlaOutIdeal.nD Cert.GlaOutIdeal.τ).loc Cert.GlaOutIdeal.main_arg3) = m ((c.tc : Thread Cert.GlaOutIdeal.nD Cert.GlaOutIdeal.τ).loc Cert.GlaOutIdeal.main_arg3)
      ∧ r.2.mem ((c.tc : Thread Cert.GlaOutIdeal.nD Cert.GlaOutIdeal.τ).loc Cert.GlaOutIdeal.main_arg4) = m ((c.tc : Thread Cert.GlaOutIdeal.nD Cert.GlaOutIdeal.τ).loc Cert.GlaOutIdeal.main_arg4))
      ∧ r.2.sem = fun _ => 0)

def quiescent_GlaOutRefIdeal [hGlaOutRefIdeal : Cert.GlaOutRefIdeal.Facts] : Prop :=
  ∀ (m : (ℓ : Loc Cert.GlaOutRefIdeal.nD Cert.GlaOutRefIdeal.τ Cert.GlaOutRefIdeal.sig) → Buf (Elt Ideal) ℓ) (g : Dev Cert.GlaOutRefIdeal.nD → PrngReg), Pre_GlaOutRefIdeal m →
    θ_run (Cert.GlaOutRefIdeal.defs (F := Ideal)) (onTc (τ := Cert.GlaOutRefIdeal.τ) (Cert.GlaOutRefIdeal.main (F := Ideal))) ⟨m, fun _ => 0, g⟩ (fun r => (∀ c : Dev Cert.GlaOutRefIdeal.nD,
      r.2.mem ((c.tc : Thread Cert.GlaOutRefIdeal.nD Cert.GlaOutRefIdeal.τ).loc Cert.GlaOutRefIdeal.main_arg0) = m ((c.tc : Thread Cert.GlaOutRefIdeal.nD Cert.GlaOutRefIdeal.τ).loc Cert.GlaOutRefIdeal.main_arg0)
      ∧ r.2.mem ((c.tc : Thread Cert.GlaOutRefIdeal.nD Cert.GlaOutRefIdeal.τ).loc Cert.GlaOutRefIdeal.main_arg1) = m ((c.tc : Thread Cert.GlaOutRefIdeal.nD Cert.GlaOutRefIdeal.τ).loc Cert.GlaOutRefIdeal.main_arg1)
      ∧ r.2.mem ((c.tc : Thread Cert.GlaOutRefIdeal.nD Cert.GlaOutRefIdeal.τ).loc Cert.GlaOutRefIdeal.main_arg2) = m ((c.tc : Thread Cert.GlaOutRefIdeal.nD Cert.GlaOutRefIdeal.τ).loc Cert.GlaOutRefIdeal.main_arg2)
      ∧ r.2.mem ((c.tc : Thread Cert.GlaOutRefIdeal.nD Cert.GlaOutRefIdeal.τ).loc Cert.GlaOutRefIdeal.main_arg3) = m ((c.tc : Thread Cert.GlaOutRefIdeal.nD Cert.GlaOutRefIdeal.τ).loc Cert.GlaOutRefIdeal.main_arg3)
      ∧ r.2.mem ((c.tc : Thread Cert.GlaOutRefIdeal.nD Cert.GlaOutRefIdeal.τ).loc Cert.GlaOutRefIdeal.main_arg4) = m ((c.tc : Thread Cert.GlaOutRefIdeal.nD Cert.GlaOutRefIdeal.τ).loc Cert.GlaOutRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Scan_ScanIdeal : Prop :=
  True

def algebraic_ScanIdeal_ScanRefIdeal_pre_scan_pre [hScanIdeal : Cert.ScanIdeal.Facts] [hScanRefIdeal : Cert.ScanRefIdeal.Facts] [hPre_scan_pre : Cert.Pre_scan_pre.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_scan_pre m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)) →
    ∃ (v0 : (c : Dev Cert.ScanIdeal.nD) → Buf (Elt Ideal) ((c.tc : Thread Cert.ScanIdeal.nD Cert.ScanIdeal.τ).loc Cert.ScanIdeal.main_v119)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v119) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v67) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7)
          ∧ r.2.mem ((c.tc : Thread Cert.ScanRefIdeal.nD Cert.ScanRefIdeal.τ).loc Cert.ScanRefIdeal.main_arg8) = m' ((c.tc : Thread Cert.ScanRefIdeal.nD Cert.ScanRefIdeal.τ).loc Cert.ScanRefIdeal.main_arg8))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v5_0)) (v1 : (c : Dev Cert.GdnInIdeal.nD) → Buf (Elt Ideal) ((c.tc : Thread Cert.GdnInIdeal.nD Cert.GdnInIdeal.τ).loc Cert.GdnInIdeal.main_v5_1)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v5_0) = v0 c
          ∧ r.2.mem ((c.tc : Thread Cert.GdnInIdeal.nD Cert.GdnInIdeal.τ).loc Cert.GdnInIdeal.main_v5_1) = v1 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v3) = v0 c
          ∧ r.2.mem ((c.tc : Thread Cert.GdnInRefIdeal.nD Cert.GdnInRefIdeal.τ).loc Cert.GdnInRefIdeal.main_v5) = v1 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)) →
    ∃ (v0 : (c : Dev Cert.GlaInIdeal.nD) → Buf (Elt Ideal) ((c.tc : Thread Cert.GlaInIdeal.nD Cert.GlaInIdeal.τ).loc Cert.GlaInIdeal.main_v4_0)) (v1 : (c : Dev Cert.GlaInIdeal.nD) → Buf (Elt Ideal) ((c.tc : Thread Cert.GlaInIdeal.nD Cert.GlaInIdeal.τ).loc Cert.GlaInIdeal.main_v4_1)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v4_0) = v0 c
          ∧ r.2.mem ((c.tc : Thread Cert.GlaInIdeal.nD Cert.GlaInIdeal.τ).loc Cert.GlaInIdeal.main_v4_1) = v1 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v2) = v0 c
          ∧ r.2.mem ((c.tc : Thread Cert.GlaInRefIdeal.nD Cert.GlaInRefIdeal.τ).loc Cert.GlaInRefIdeal.main_v4) = v1 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)
      ∧ m' ((c.tc : Thread Cert.GdnOutRefIdeal.nD Cert.GdnOutRefIdeal.τ).loc Cert.GdnOutRefIdeal.main_arg3) = m ((c.tc : Thread Cert.GdnOutIdeal.nD Cert.GdnOutIdeal.τ).loc Cert.GdnOutIdeal.main_arg3)
      ∧ m' ((c.tc : Thread Cert.GdnOutRefIdeal.nD Cert.GdnOutRefIdeal.τ).loc Cert.GdnOutRefIdeal.main_arg4) = m ((c.tc : Thread Cert.GdnOutIdeal.nD Cert.GdnOutIdeal.τ).loc Cert.GdnOutIdeal.main_arg4)) →
    ∃ (v0 : (c : Dev Cert.GdnOutIdeal.nD) → Buf (Elt Ideal) ((c.tc : Thread Cert.GdnOutIdeal.nD Cert.GdnOutIdeal.τ).loc Cert.GdnOutIdeal.main_v9)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v9) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
          ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v32) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2)
          ∧ r.2.mem ((c.tc : Thread Cert.GdnOutRefIdeal.nD Cert.GdnOutRefIdeal.τ).loc Cert.GdnOutRefIdeal.main_arg3) = m' ((c.tc : Thread Cert.GdnOutRefIdeal.nD Cert.GdnOutRefIdeal.τ).loc Cert.GdnOutRefIdeal.main_arg3)
          ∧ r.2.mem ((c.tc : Thread Cert.GdnOutRefIdeal.nD Cert.GdnOutRefIdeal.τ).loc Cert.GdnOutRefIdeal.main_arg4) = m' ((c.tc : Thread Cert.GdnOutRefIdeal.nD Cert.GdnOutRefIdeal.τ).loc Cert.GdnOutRefIdeal.main_arg4))

def preserves_GlaOut_GlaOutIdeal : Prop :=
  True

def algebraic_GlaOutIdeal_GlaOutRefIdeal [hGlaOutIdeal : Cert.GlaOutIdeal.Facts] [hGlaOutRefIdeal : Cert.GlaOutRefIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg)
    (m' : (ℓ : Loc Cert.GlaOutRefIdeal.nD Cert.GlaOutRefIdeal.τ Cert.GlaOutRefIdeal.sig) → Buf (Elt Ideal) ℓ) (g' : Dev Cert.GlaOutRefIdeal.nD → PrngReg), Pre_GlaOutIdeal m →
    (∀ c : Dev Cert.GlaOutIdeal.nD,
      m' ((c.tc : Thread Cert.GlaOutRefIdeal.nD Cert.GlaOutRefIdeal.τ).loc Cert.GlaOutRefIdeal.main_arg0) = m ((c.tc : Thread Cert.GlaOutIdeal.nD Cert.GlaOutIdeal.τ).loc Cert.GlaOutIdeal.main_arg0)
      ∧ m' ((c.tc : Thread Cert.GlaOutRefIdeal.nD Cert.GlaOutRefIdeal.τ).loc Cert.GlaOutRefIdeal.main_arg1) = m ((c.tc : Thread Cert.GlaOutIdeal.nD Cert.GlaOutIdeal.τ).loc Cert.GlaOutIdeal.main_arg1)
      ∧ m' ((c.tc : Thread Cert.GlaOutRefIdeal.nD Cert.GlaOutRefIdeal.τ).loc Cert.GlaOutRefIdeal.main_arg2) = m ((c.tc : Thread Cert.GlaOutIdeal.nD Cert.GlaOutIdeal.τ).loc Cert.GlaOutIdeal.main_arg2)
      ∧ m' ((c.tc : Thread Cert.GlaOutRefIdeal.nD Cert.GlaOutRefIdeal.τ).loc Cert.GlaOutRefIdeal.main_arg3) = m ((c.tc : Thread Cert.GlaOutIdeal.nD Cert.GlaOutIdeal.τ).loc Cert.GlaOutIdeal.main_arg3)
      ∧ m' ((c.tc : Thread Cert.GlaOutRefIdeal.nD Cert.GlaOutRefIdeal.τ).loc Cert.GlaOutRefIdeal.main_arg4) = m ((c.tc : Thread Cert.GlaOutIdeal.nD Cert.GlaOutIdeal.τ).loc Cert.GlaOutIdeal.main_arg4)) →
    ∃ (v0 : (c : Dev Cert.GlaOutIdeal.nD) → Buf (Elt Ideal) ((c.tc : Thread Cert.GlaOutIdeal.nD Cert.GlaOutIdeal.τ).loc Cert.GlaOutIdeal.main_v8)),
      θ_run (Cert.GlaOutIdeal.defs (F := Ideal)) (onTc (τ := Cert.GlaOutIdeal.τ) (Cert.GlaOutIdeal.main (F := Ideal))) ⟨m, fun _ => 0, g⟩ (fun r => ∀ c : Dev Cert.GlaOutIdeal.nD,
          r.2.mem ((c.tc : Thread Cert.GlaOutIdeal.nD Cert.GlaOutIdeal.τ).loc Cert.GlaOutIdeal.main_v8) = v0 c
          ∧ r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
          ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
          ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2)
          ∧ r.2.mem ((c.tc : Thread Cert.GlaOutIdeal.nD Cert.GlaOutIdeal.τ).loc Cert.GlaOutIdeal.main_arg3) = m ((c.tc : Thread Cert.GlaOutIdeal.nD Cert.GlaOutIdeal.τ).loc Cert.GlaOutIdeal.main_arg3)
          ∧ r.2.mem ((c.tc : Thread Cert.GlaOutIdeal.nD Cert.GlaOutIdeal.τ).loc Cert.GlaOutIdeal.main_arg4) = m ((c.tc : Thread Cert.GlaOutIdeal.nD Cert.GlaOutIdeal.τ).loc Cert.GlaOutIdeal.main_arg4))
      ∧ θ_run (Cert.GlaOutRefIdeal.defs (F := Ideal)) (onTc (τ := Cert.GlaOutRefIdeal.τ) (Cert.GlaOutRefIdeal.main (F := Ideal))) ⟨m', fun _ => 0, g'⟩ (fun r => ∀ c : Dev Cert.GlaOutRefIdeal.nD,
          r.2.mem ((c.tc : Thread Cert.GlaOutRefIdeal.nD Cert.GlaOutRefIdeal.τ).loc Cert.GlaOutRefIdeal.main_v31) = v0 c
          ∧ r.2.mem ((c.tc : Thread Cert.GlaOutRefIdeal.nD Cert.GlaOutRefIdeal.τ).loc Cert.GlaOutRefIdeal.main_arg0) = m' ((c.tc : Thread Cert.GlaOutRefIdeal.nD Cert.GlaOutRefIdeal.τ).loc Cert.GlaOutRefIdeal.main_arg0)
          ∧ r.2.mem ((c.tc : Thread Cert.GlaOutRefIdeal.nD Cert.GlaOutRefIdeal.τ).loc Cert.GlaOutRefIdeal.main_arg1) = m' ((c.tc : Thread Cert.GlaOutRefIdeal.nD Cert.GlaOutRefIdeal.τ).loc Cert.GlaOutRefIdeal.main_arg1)
          ∧ r.2.mem ((c.tc : Thread Cert.GlaOutRefIdeal.nD Cert.GlaOutRefIdeal.τ).loc Cert.GlaOutRefIdeal.main_arg2) = m' ((c.tc : Thread Cert.GlaOutRefIdeal.nD Cert.GlaOutRefIdeal.τ).loc Cert.GlaOutRefIdeal.main_arg2)
          ∧ r.2.mem ((c.tc : Thread Cert.GlaOutRefIdeal.nD Cert.GlaOutRefIdeal.τ).loc Cert.GlaOutRefIdeal.main_arg3) = m' ((c.tc : Thread Cert.GlaOutRefIdeal.nD Cert.GlaOutRefIdeal.τ).loc Cert.GlaOutRefIdeal.main_arg3)
          ∧ r.2.mem ((c.tc : Thread Cert.GlaOutRefIdeal.nD Cert.GlaOutRefIdeal.τ).loc Cert.GlaOutRefIdeal.main_arg4) = m' ((c.tc : Thread Cert.GlaOutRefIdeal.nD Cert.GlaOutRefIdeal.τ).loc Cert.GlaOutRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v8)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v8) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v40) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_Gla_GlaIdeal : Prop :=
  True

def preserves_Gdn_GdnIdeal : Prop :=
  True

def Claim : Prop :=
  ∃ (hFfn : Cert.Ffn.Facts) (hFfnIdeal : Cert.FfnIdeal.Facts) (hFfnRefIdeal : Cert.FfnRefIdeal.Facts) (hScan : Cert.Scan.Facts) (hScanIdeal : Cert.ScanIdeal.Facts) (hScanRefIdeal : Cert.ScanRefIdeal.Facts) (hGdnIn : Cert.GdnIn.Facts) (hGdnInIdeal : Cert.GdnInIdeal.Facts) (hGdnInRefIdeal : Cert.GdnInRefIdeal.Facts) (hGlaIn : Cert.GlaIn.Facts) (hGlaInIdeal : Cert.GlaInIdeal.Facts) (hGlaInRefIdeal : Cert.GlaInRefIdeal.Facts) (hGdnOut : Cert.GdnOut.Facts) (hGdnOutIdeal : Cert.GdnOutIdeal.Facts) (hGdnOutRefIdeal : Cert.GdnOutRefIdeal.Facts) (hGlaOut : Cert.GlaOut.Facts) (hGlaOutIdeal : Cert.GlaOutIdeal.Facts) (hGlaOutRefIdeal : Cert.GlaOutRefIdeal.Facts) (hGlu : Cert.Glu.Facts) (hGluIdeal : Cert.GluIdeal.Facts) (hGluRefIdeal : Cert.GluRefIdeal.Facts) (hGla : Cert.Gla.Facts) (hGlaIdeal : Cert.GlaIdeal.Facts) (hGdn : Cert.Gdn.Facts) (hGdnIdeal : Cert.GdnIdeal.Facts) (hPre_scan_pre : Cert.Pre_scan_pre.Facts),
    quiescent_Ffn (hFfn := hFfn)
    ∧ quiescent_FfnIdeal (hFfnIdeal := hFfnIdeal)
    ∧ quiescent_FfnRefIdeal (hFfnRefIdeal := hFfnRefIdeal)
    ∧ quiescent_Scan (hScan := hScan)
    ∧ quiescent_ScanIdeal (hScanIdeal := hScanIdeal)
    ∧ quiescent_ScanIdeal_pre_scan_pre (hScanIdeal := hScanIdeal) (hPre_scan_pre := hPre_scan_pre)
    ∧ quiescent_ScanRefIdeal (hScanRefIdeal := hScanRefIdeal)
    ∧ quiescent_ScanRefIdeal_pre_scan_pre (hScanRefIdeal := hScanRefIdeal) (hPre_scan_pre := hPre_scan_pre)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_GlaOut (hGlaOut := hGlaOut)
    ∧ quiescent_GlaOutIdeal (hGlaOutIdeal := hGlaOutIdeal)
    ∧ quiescent_GlaOutRefIdeal (hGlaOutRefIdeal := hGlaOutRefIdeal)
    ∧ quiescent_Glu (hGlu := hGlu)
    ∧ quiescent_GluIdeal (hGluIdeal := hGluIdeal)
    ∧ quiescent_GluRefIdeal (hGluRefIdeal := hGluRefIdeal)
    ∧ quiescent_Gla (hGla := hGla)
    ∧ quiescent_GlaIdeal (hGlaIdeal := hGlaIdeal)
    ∧ quiescent_Gdn (hGdn := hGdn)
    ∧ quiescent_GdnIdeal (hGdnIdeal := hGdnIdeal)
    ∧ preserves_Ffn_FfnIdeal
    ∧ algebraic_FfnIdeal_FfnRefIdeal (hFfnIdeal := hFfnIdeal) (hFfnRefIdeal := hFfnRefIdeal)
    ∧ preserves_Scan_ScanIdeal
    ∧ algebraic_ScanIdeal_ScanRefIdeal_pre_scan_pre (hScanIdeal := hScanIdeal) (hScanRefIdeal := hScanRefIdeal) (hPre_scan_pre := hPre_scan_pre)
    ∧ preserves_GdnIn_GdnInIdeal
    ∧ algebraic_GdnInIdeal_GdnInRefIdeal (hGdnInIdeal := hGdnInIdeal) (hGdnInRefIdeal := hGdnInRefIdeal)
    ∧ preserves_GlaIn_GlaInIdeal
    ∧ algebraic_GlaInIdeal_GlaInRefIdeal (hGlaInIdeal := hGlaInIdeal) (hGlaInRefIdeal := hGlaInRefIdeal)
    ∧ preserves_GdnOut_GdnOutIdeal
    ∧ algebraic_GdnOutIdeal_GdnOutRefIdeal (hGdnOutIdeal := hGdnOutIdeal) (hGdnOutRefIdeal := hGdnOutRefIdeal)
    ∧ preserves_GlaOut_GlaOutIdeal
    ∧ algebraic_GlaOutIdeal_GlaOutRefIdeal (hGlaOutIdeal := hGlaOutIdeal) (hGlaOutRefIdeal := hGlaOutRefIdeal)
    ∧ preserves_Glu_GluIdeal
    ∧ algebraic_GluIdeal_GluRefIdeal (hGluIdeal := hGluIdeal) (hGluRefIdeal := hGluRefIdeal)
    ∧ preserves_Gla_GlaIdeal
    ∧ preserves_Gdn_GdnIdeal
-- ==== Pre_scan_pre.lean ====
abbrev S32768x2048 : Shape := ⟨2, ![32768, 2048]⟩
abbrev S1x128x64 : Shape := ⟨3, ![1, 128, 64]⟩
abbrev S1x128x64x16 : Shape := ⟨4, ![1, 128, 64, 16]⟩
abbrev S1x128x16x64 : Shape := ⟨4, ![1, 128, 16, 64]⟩
abbrev S1x2048 : Shape := ⟨2, ![1, 2048]⟩
abbrev S1x128 : Shape := ⟨2, ![1, 128]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S1x128x64 : S_.BroadcastsInDim S1x128x64 (![] : Fin 0 → Fin S1x128x64.rank)
  reducesTo_S1x128x64_S_d0_1_2 : S1x128x64.ReducesTo [0, 1, 2] S_
  bcast_S_S1x128x64x16 : S_.BroadcastsInDim S1x128x64x16 (![] : Fin 0 → Fin S1x128x64x16.rank)
  reducesTo_S1x128x64x16_S_d0_1_2_3 : S1x128x64x16.ReducesTo [0, 1, 2, 3] S_
  bcast_S_S1x128x16x64 : S_.BroadcastsInDim S1x128x16x64 (![] : Fin 0 → Fin S1x128x16x64.rank)
  reducesTo_S1x128x16x64_S_d0_1_2_3 : S1x128x16x64.ReducesTo [0, 1, 2, 3] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v29 : IVec S1x128x64 1) (main_v31 : IVec S1x128x64 1) : IVec S_ 1 :=
  let main_v32 : IVec S1x128x64 1 := ori main_v29 main_v31
  let main_c_14 : IVec S_ 1 := constantI S_ 1 1#1
  let main_v33 : IVec S_ 1 := (fun x v => Host.reduce IntOp.andi x v reducesTo_S1x128x64_S_d0_1_2 h_S_) main_v32 main_c_14
  let main_v34 : IVec S_ 1 := andi main_v3 main_v7
  let main_v35 : IVec S_ 1 := andi main_v34 main_v11
  let main_v36 : IVec S_ 1 := andi main_v35 main_v15
  let main_v37 : IVec S_ 1 := andi main_v36 main_v19
  let main_v38 : IVec S_ 1 := andi main_v37 main_v23
  let main_v39 : IVec S_ 1 := andi main_v38 main_v27
  let main_v40 : IVec S_ 1 := andi main_v39 main_v33
  main_v40

def fn_part1 {F : FTy → Type} [FloatOps F] (main_arg1 : FVec F S1x128x64 .f32) (main_arg2 : FVec F S1x128x64 .f32) (main_arg4 : FVec F S1x128x64x16 .f32) (main_arg6 : FVec F S1x128x16x64 .f32) (main_arg8 : FVec F S1x128 .f32) (main_v3 : IVec S_ 1) (main_v7 : IVec S_ 1) (main_v11 : IVec S_ 1) (main_v15 : IVec S_ 1) : IVec S_ 1 :=
  let main_v16 : FVec F S1x128x64x16 .f32 := Host.absf main_arg4
  let main_cst_6 : FVec F S_ .f32 := constant S_ .f32 0x7F800000#32
  let main_v17 : FVec F S1x128x64x16 .f32 := broadcastInDim S1x128x64x16 ![] bcast_S_S1x128x64x16 main_cst_6
  let main_v18 : IVec S1x128x64x16 1 := cmpf .olt main_v16 main_v17
  let main_c_7 : IVec S_ 1 := constantI S_ 1 1#1
  let main_v19 : IVec S_ 1 := (fun x v => Host.reduce IntOp.andi x v reducesTo_S1x128x64x16_S_d0_1_2_3 h_S_) main_v18 main_c_7
  let main_v20 : FVec F S1x128x16x64 .f32 := Host.absf main_arg6
  let main_cst_8 : FVec F S_ .f32 := constant S_ .f32 0x7F800000#32
  let main_v21 : FVec F S1x128x16x64 .f32 := broadcastInDim S1x128x16x64 ![] bcast_S_S1x128x16x64 main_cst_8
  let main_v22 : IVec S1x128x16x64 1 := cmpf .olt main_v20 main_v21
  let main_c_9 : IVec S_ 1 := constantI S_ 1 1#1
  let main_v23 : IVec S_ 1 := (fun x v => Host.reduce IntOp.andi x v reducesTo_S1x128x16x64_S_d0_1_2_3 h_S_) main_v22 main_c_9
  let main_v24 : FVec F S1x128 .f32 := Host.absf main_arg8
  let main_cst_10 : FVec F S_ .f32 := constant S_ .f32 0x7F800000#32
  let main_v25 : FVec F S1x128 .f32 := broadcastInDim S1x128 ![] bcast_S_S1x128 main_cst_10
  let main_v26 : IVec S1x128 1 := cmpf .olt main_v24 main_v25
  let main_c_11 : IVec S_ 1 := constantI S_ 1 1#1
  let main_v27 : IVec S_ 1 := (fun x v => Host.reduce IntOp.andi x v reducesTo_S1x128_S_d0_1 h_S_) main_v26 main_c_11
  let main_cst_12 : FVec F S_ .f32 := constant S_ .f32 0x00000000#32
  let main_v28 : FVec F S1x128x64 .f32 := broadcastInDim S1x128x64 ![] bcast_S_S1x128x64 main_cst_12
  let main_v29 : IVec S1x128x64 1 := cmpf .une main_arg1 main_v28
  let main_cst_13 : FVec F S_ .f32 := constant S_ .f32 0x00000000#32
  let main_v30 : FVec F S1x128x64 .f32 := broadcastInDim S1x128x64 ![] bcast_S_S1x128x64 main_cst_13
  let main_v31 : IVec S1x128x64 1 := cmpf .une main_arg2 main_v30
  fn_part2 (F := F) main_v3 main_v7 main_v11 main_v15 main_v19 main_v23 main_v27 main_v29 main_v31

def fn {F : FTy → Type} [FloatOps F] (main_arg0 : FVec F S32768x2048 .f32) (main_arg1 : FVec F S1x128x64 .f32) (main_arg2 : FVec F S1x128x64 .f32) (main_arg3 : FVec F S1x128x64x16 .f32) (main_arg4 : FVec F S1x128x64x16 .f32) (main_arg5 : FVec F S1x128x16x64 .f32) (main_arg6 : FVec F S1x128x16x64 .f32) (main_arg7 : FVec F S1x2048 .f32) (main_arg8 : FVec F S1x128 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S1x128x64 .f32 := Host.absf main_arg1
  let main_cst_0 : FVec F S_ .f32 := constant S_ .f32 0x7F800000#32
  let main_v5 : FVec F S1x128x64 .f32 := broadcastInDim S1x128x64 ![] bcast_S_S1x128x64 main_cst_0
  let main_v6 : IVec S1x128x64 1 := cmpf .olt main_v4 main_v5
  let main_c_1 : IVec S_ 1 := constantI S_ 1 1#1
  let main_v7 : IVec S_ 1 := (fun x v => Host.reduce IntOp.andi x v reducesTo_S1x128x64_S_d0_1_2 h_S_) main_v6 main_c_1
  let main_v8 : FVec F S1x128x64 .f32 := Host.absf main_arg2
  let main_cst_2 : FVec F S_ .f32 := constant S_ .f32 0x7F800000#32
  let main_v9 : FVec F S1x128x64 .f32 := broadcastInDim S1x128x64 ![] bcast_S_S1x128x64 main_cst_2
  let main_v10 : IVec S1x128x64 1 := cmpf .olt main_v8 main_v9
  let main_c_3 : IVec S_ 1 := constantI S_ 1 1#1
  let main_v11 : IVec S_ 1 := (fun x v => Host.reduce IntOp.andi x v reducesTo_S1x128x64_S_d0_1_2 h_S_) main_v10 main_c_3
  let main_v12 : FVec F S1x128x64x16 .f32 := Host.absf main_arg3
  let main_cst_4 : FVec F S_ .f32 := constant S_ .f32 0x7F800000#32
  let main_v13 : FVec F S1x128x64x16 .f32 := broadcastInDim S1x128x64x16 ![] bcast_S_S1x128x64x16 main_cst_4
  let main_v14 : IVec S1x128x64x16 1 := cmpf .olt main_v12 main_v13
  let main_c_5 : IVec S_ 1 := constantI S_ 1 1#1
  let main_v15 : IVec S_ 1 := (fun x v => Host.reduce IntOp.andi x v reducesTo_S1x128x64x16_S_d0_1_2_3 h_S_) main_v14 main_c_5
  fn_part1 (F := F) main_arg1 main_arg2 main_arg4 main_arg6 main_arg8 main_v3 main_v7 main_v11 main_v15
-- ==== Ffn.lean ====
abbrev S32768x2048 : Shape := ⟨2, ![32768, 2048]⟩
abbrev S4x2x2048x11264 : Shape := ⟨4, ![4, 2, 2048, 11264]⟩
abbrev S4x2x5632x2048 : Shape := ⟨4, ![4, 2, 5632, 2048]⟩
abbrev S4x3x2048 : Shape := ⟨3, ![4, 3, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S4x2x2048x11264, .f32⟩
  | .hbm, ⟨2, _⟩ => ⟨S4x2x5632x2048, .f32⟩
  | .hbm, ⟨3, _⟩ => ⟨S4x3x2048, .f32⟩
  | .hbm, ⟨4, _⟩ => ⟨S4x3x2048, .f32⟩
  | .hbm, ⟨5, _⟩ => ⟨S4x2x2048x11264, .bf16⟩
  | .hbm, ⟨6, _⟩ => ⟨S4x2x5632x2048, .bf16⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x512x2048, .bf16⟩
  | .local _ .vmem, ⟨7, _⟩ => ⟨S1x1x512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c1_i32 : BitVec 32 := 1#32
  let c0_i32 : BitVec 32 := 0#32
  let c0_i32_0 : BitVec 32 := 0#32
  ![c3_i32.toNat, c1_i32.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x2048 : Shape := ⟨2, ![32768, 2048]⟩
abbrev S4x2x2048x11264 : Shape := ⟨4, ![4, 2, 2048, 11264]⟩
abbrev S4x2x5632x2048 : Shape := ⟨4, ![4, 2, 5632, 2048]⟩
abbrev S4x3x2048 : Shape := ⟨3, ![4, 3, 2048]⟩
abbrev S_ : Shape := ⟨0, ![]⟩
abbrev S1x1x2048x11264 : Shape := ⟨4, ![1, 1, 2048, 11264]⟩
abbrev S2048x11264 : Shape := ⟨2, ![2048, 11264]⟩
abbrev S1x1x5632x2048 : Shape := ⟨4, ![1, 1, 5632, 2048]⟩
abbrev S5632x2048 : Shape := ⟨2, ![5632, 2048]⟩
abbrev S32768x11264 : Shape := ⟨2, ![32768, 11264]⟩
abbrev S32768x5632 : Shape := ⟨2, ![32768, 5632]⟩
abbrev S1x1x2048 : Shape := ⟨3, ![1, 1, 2048]⟩
abbrev S2048 : Shape := ⟨1, ![2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2x2048x11264, .f32⟩
  | .hbm, ⟨2, _⟩ => ⟨S4x2x5632x2048, .f32⟩
  | .hbm, ⟨3, _⟩ => ⟨S4x3x2048, .f32⟩
  | .hbm, ⟨4, _⟩ => ⟨S4x3x2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S1x1x2048x11264, .f32⟩
  | .hbm, ⟨9, _⟩ => ⟨S2048x11264, .f32⟩
  | .hbm, ⟨10, _⟩ => ⟨S1x1x5632x2048, .f32⟩
  | .hbm, ⟨11, _⟩ => ⟨S5632x2048, .f32⟩
  | .hbm, ⟨12, _⟩ => ⟨S32768x11264, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S_, .f32⟩
  | .hbm, ⟨18, _⟩ => ⟨S32768x5632, .f32⟩
  | .hbm, ⟨19, _⟩ => ⟨S32768x5632, .f32⟩
  | .hbm, ⟨20, _⟩ => ⟨S_, .f32⟩
  | .hbm, ⟨21, _⟩ => ⟨S32768x5632, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S32768x2048, .f32⟩
  | .hbm, ⟨26, _⟩ => ⟨S_, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S1x1x2048, .f32⟩
  | .hbm, ⟨31, _⟩ => ⟨S2048, .f32⟩
  | .hbm, ⟨32, _⟩ => ⟨S1x1x2048, .f32⟩
  | .hbm, ⟨33, _⟩ => ⟨S2048, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x2048, .f32⟩
  | .hbm, ⟨54, _⟩ => ⟨S32768x2048, .f32⟩
  | .hbm, ⟨55, _⟩ => ⟨S1x2048, .f32⟩
  | .hbm, ⟨56, _⟩ => ⟨S32768x2048, .f32⟩
  | .hbm, ⟨57, _⟩ => ⟨S32768x2048, .f32⟩
  | .hbm, ⟨58, _⟩ => ⟨S1x2048, .f32⟩
  | .hbm, ⟨59, _⟩ => ⟨S32768x2048, .f32⟩
  | .hbm, ⟨60, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Scan.lean ====
abbrev S32768x2048 : Shape := ⟨2, ![32768, 2048]⟩
abbrev S1x128x64 : Shape := ⟨3, ![1, 128, 64]⟩
abbrev S1x128x64x16 : Shape := ⟨4, ![1, 128, 64, 16]⟩
abbrev S1x128x16x64 : Shape := ⟨4, ![1, 128, 16, 64]⟩
abbrev S1x2048 : Shape := ⟨2, ![1, 2048]⟩
abbrev S1x128 : Shape := ⟨2, ![1, 128]⟩
abbrev S128x64 : Shape := ⟨2, ![128, 64]⟩
abbrev S128x64x16 : Shape := ⟨3, ![128, 64, 16]⟩
abbrev S128x16x64 : Shape := ⟨3, ![128, 16, 64]⟩
abbrev S2048 : Shape := ⟨1, ![2048]⟩
abbrev S128 : Shape := ⟨1, ![128]⟩
abbrev S128x1 : Shape := ⟨2, ![128, 1]⟩
abbrev S_ : Shape := ⟨0, ![]⟩
abbrev S128x64x1 : Shape := ⟨3, ![128, 64, 1]⟩
abbrev S16x16 : Shape := ⟨2, ![16, 16]⟩
abbrev S8x16x64x16 : Shape := ⟨4, ![8, 16, 64, 16]⟩
abbrev S8x16x16x64 : Shape := ⟨4, ![8, 16, 16, 64]⟩
abbrev S8x16x16x1x64 : Shape := ⟨5, ![8, 16, 16, 1, 64]⟩
abbrev S1x16x1x16x1 : Shape := ⟨5, ![1, 16, 1, 16, 1]⟩
abbrev S8x16x16x16x64 : Shape := ⟨5, ![8, 16, 16, 16, 64]⟩
abbrev S8x256x1024 : Shape := ⟨3, ![8, 256, 1024]⟩
abbrev S8x256x2048 : Shape := ⟨3, ![8, 256, 2048]⟩
abbrev S8x16x64x1x16 : Shape := ⟨5, ![8, 16, 64, 1, 16]⟩
abbrev S8x16x64x16x16 : Shape := ⟨5, ![8, 16, 64, 16, 16]⟩
abbrev S8x1024x256 : Shape := ⟨3, ![8, 1024, 256]⟩
abbrev S8x2048x256 : Shape := ⟨3, ![8, 2048, 256]⟩
abbrev S8x1x1024 : Shape := ⟨3, ![8, 1, 1024]⟩
abbrev S8x4x1024 : Shape := ⟨3, ![8, 4, 1024]⟩
abbrev S8x8x1024 : Shape := ⟨3, ![8, 8, 1024]⟩
abbrev S512x256 : Shape := ⟨2, ![512, 256]⟩
abbrev S1x256x2048 : Shape := ⟨3, ![1, 256, 2048]⟩
abbrev S1x2048x256 : Shape := ⟨3, ![1, 2048, 256]⟩
abbrev S1x256 : Shape := ⟨2, ![1, 256]⟩
abbrev S1x8x1024 : Shape := ⟨3, ![1, 8, 1024]⟩
abbrev S8x1024 : Shape := ⟨2, ![8, 1024]⟩
abbrev S128x256 : Shape := ⟨2, ![128, 256]⟩
abbrev S256x2048 : Shape := ⟨2, ![256, 2048]⟩
abbrev S128x2048 : Shape := ⟨2, ![128, 2048]⟩
abbrev S128x1024 : Shape := ⟨2, ![128, 1024]⟩
abbrev S2048x256 : Shape := ⟨2, ![2048, 256]⟩

abbrev nBuf : Space → Nat
  | .hbm => 133
  | .vmem => 20
  | .smem => 0
  | _ => 0

abbrev hbmTy0_0 (i : Nat) : BufTy := match i % 128 with
  | 0 => ⟨S32768x2048, .f32⟩
  | 1 => ⟨S1x128x64, .f32⟩
  | 2 => ⟨S1x128x64, .f32⟩
  | 3 => ⟨S1x128x64x16, .f32⟩
  | 4 => ⟨S1x128x64x16, .f32⟩
  | 5 => ⟨S1x128x16x64, .f32⟩
  | 6 => ⟨S1x128x16x64, .f32⟩
  | 7 => ⟨S1x2048, .f32⟩
  | 8 => ⟨S1x128, .f32⟩
  | 9 => ⟨S128x64, .f32⟩
  | 10 => ⟨S128x64, .f32⟩
  | 11 => ⟨S128x64x16, .f32⟩
  | 12 => ⟨S128x64x16, .f32⟩
  | 13 => ⟨S128x16x64, .f32⟩
  | 14 => ⟨S128x16x64, .f32⟩
  | 15 => ⟨S2048, .f32⟩
  | 16 => ⟨S128, .f32⟩
  | 17 => ⟨S128x1, .f32⟩
  | 18 => ⟨S128x1, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S_, .f32⟩
  | 31 => ⟨S128x64, .f32⟩
  | 32 => ⟨S128x64, .f32⟩
  | 33 => ⟨S128x64, .f32⟩
  | 34 => ⟨S128x64, .f32⟩
  | 35 => ⟨S128x64, .f32⟩
  | 36 => ⟨S128x64, .f32⟩
  | 37 => ⟨S128x64, .f32⟩
  | 38 => ⟨S128x64, .f32⟩
  | 39 => ⟨S_, .f32⟩
  | 40 => ⟨S128x64, .f32⟩
  | 41 => ⟨S128x64, .f32⟩
  | 42 => ⟨S128x64, .f32⟩
  | 43 => ⟨S128x64, .f32⟩
  | 44 => ⟨S128x64, .f32⟩
  | 45 => ⟨S128x64, .f32⟩
  | 46 => ⟨S128x64, .f32⟩
  | 47 => ⟨S128x64, .f32⟩
  | 48 => ⟨S128x64, .f32⟩
  | 49 => ⟨S128x64, .f32⟩
  | 50 => ⟨S128x64, .f32⟩
  | 51 => ⟨S128x64x1, .f32⟩
  | 52 => ⟨S128x64x16, .f32⟩
  | 53 => ⟨S128x64x16, .f32⟩
  | 54 => ⟨S128x64x1, .f32⟩
  | 55 => ⟨S128x64x16, .f32⟩
  | 56 => ⟨S128x64x16, .f32⟩
  | 57 => ⟨S128x64x16, .f32⟩
  | 58 => ⟨S128x64x1, .f32⟩
  | 59 => ⟨S128x64x16, .f32⟩
  | 60 => ⟨S128x64x16, .f32⟩
  | 61 => ⟨S128x64x1, .f32⟩
  | 62 => ⟨S128x64x16, .f32⟩
  | 63 => ⟨S128x64x16, .f32⟩
  | 64 => ⟨S128x64x16, .f32⟩
  | 65 => ⟨S16x16, .i32⟩
  | 66 => ⟨S16x16, .i32⟩
  | 67 => ⟨S_, .i32⟩
  | 68 => ⟨S16x16, .i32⟩
  | 69 => ⟨S16x16, .i32⟩
  | 70 => ⟨S16x16, .i1⟩
  | 71 => ⟨S16x16, .f32⟩
  | 72 => ⟨S8x16x64x16, .f32⟩
  | 73 => ⟨S8x16x16x64, .f32⟩
  | 74 => ⟨S8x16x16x1x64, .f32⟩
  | 75 => ⟨S1x16x1x16x1, .f32⟩
  | 76 => ⟨S8x16x16x16x64, .f32⟩
  | 77 => ⟨S8x16x16x16x64, .f32⟩
  | 78 => ⟨S8x16x16x16x64, .f32⟩
  | 79 => ⟨S8x256x1024, .f32⟩
  | 80 => ⟨S8x16x64x16, .f32⟩
  | 81 => ⟨S8x16x16x64, .f32⟩
  | 82 => ⟨S8x16x16x1x64, .f32⟩
  | 83 => ⟨S1x16x1x16x1, .f32⟩
  | 84 => ⟨S8x16x16x16x64, .f32⟩
  | 85 => ⟨S8x16x16x16x64, .f32⟩
  | 86 => ⟨S8x16x16x16x64, .f32⟩
  | 87 => ⟨S8x256x1024, .f32⟩
  | 88 => ⟨S8x256x2048, .f32⟩
  | 89 => ⟨S8x256x2048, .bf16⟩
  | 90 => ⟨S8x16x16x64, .f32⟩
  | 91 => ⟨S8x16x64x16, .f32⟩
  | 92 => ⟨S8x16x64x1x16, .f32⟩
  | 93 => ⟨S1x16x1x16x1, .f32⟩
  | 94 => ⟨S8x16x64x16x16, .f32⟩
  | 95 => ⟨S8x16x64x16x16, .f32⟩
  | 96 => ⟨S8x16x64x16x16, .f32⟩
  | 97 => ⟨S8x1024x256, .f32⟩
  | 98 => ⟨S128x16x64, .f32⟩
  | 99 => ⟨S8x16x16x64, .f32⟩
  | 100 => ⟨S8x16x64x16, .f32⟩
  | 101 => ⟨S8x16x64x1x16, .f32⟩
  | 102 => ⟨S1x16x1x16x1, .f32⟩
  | 103 => ⟨S8x16x64x16x16, .f32⟩
  | 104 => ⟨S8x16x64x16x16, .f32⟩
  | 105 => ⟨S8x16x64x16x16, .f32⟩
  | 106 => ⟨S8x1024x256, .f32⟩
  | 107 => ⟨S8x2048x256, .f32⟩
  | 108 => ⟨S8x2048x256, .bf16⟩
  | 109 => ⟨S_, .f32⟩
  | 110 => ⟨S128x64, .f32⟩
  | 111 => ⟨S8x1x1024, .f32⟩
  | 112 => ⟨S8x4x1024, .f32⟩
  | 113 => ⟨S8x1x1024, .f32⟩
  | 114 => ⟨S8x4x1024, .f32⟩
  | 115 => ⟨S8x8x1024, .f32⟩
  | 116 => ⟨S8x1x1024, .f32⟩
  | 117 => ⟨S8x4x1024, .f32⟩
  | 118 => ⟨S8x1x1024, .f32⟩
  | 119 => ⟨S8x4x1024, .f32⟩
  | 120 => ⟨S8x8x1024, .f32⟩
  | 121 => ⟨S8x1x1024, .f32⟩
  | 122 => ⟨S8x4x1024, .f32⟩
  | 123 => ⟨S8x1x1024, .f32⟩
  | 124 => ⟨S8x4x1024, .f32⟩
  | 125 => ⟨S8x8x1024, .f32⟩
  | 126 => ⟨S8x1x1024, .f32⟩
  | 127 => ⟨S8x4x1024, .f32⟩
  | _ => ⟨S32768x2048, .f32⟩

abbrev hbmTy0_1 (i : Nat) : BufTy := match i % 128 with
  | 0 => ⟨S8x1x1024, .f32⟩
  | 1 => ⟨S8x4x1024, .f32⟩
  | 2 => ⟨S8x8x1024, .f32⟩
  | 3 => ⟨S1x2048, .f32⟩
  | 4 => ⟨S32768x2048, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S1x256x2048, .bf16⟩
  | .local _ .vmem, ⟨3, _⟩ => ⟨S1x256x2048, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256, .f32⟩
  | .local _ .vmem, ⟨7, _⟩ => ⟨S1x256, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x8x1024, .f32⟩
  | .local _ .vmem, ⟨16, _⟩ => ⟨S512x256, .bf16⟩
  | .local _ .vmem, ⟨17, _⟩ => ⟨S512x256, .bf16⟩
  | .local _ .vmem, ⟨18, _⟩ => ⟨S8x1024, .f32⟩
  | .local _ .vmem, ⟨19, _⟩ => ⟨S8x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_c : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_1 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ScanRefIdeal.lean ====
abbrev S32768x2048 : Shape := ⟨2, ![32768, 2048]⟩
abbrev S1x128x64 : Shape := ⟨3, ![1, 128, 64]⟩
abbrev S1x128x64x16 : Shape := ⟨4, ![1, 128, 64, 16]⟩
abbrev S1x128x16x64 : Shape := ⟨4, ![1, 128, 16, 64]⟩
abbrev S1x2048 : Shape := ⟨2, ![1, 2048]⟩
abbrev S1x128 : Shape := ⟨2, ![1, 128]⟩
abbrev S128x64 : Shape := ⟨2, ![128, 64]⟩
abbrev S128x64x16 : Shape := ⟨3, ![128, 64, 16]⟩
abbrev S128x16x64 : Shape := ⟨3, ![128, 16, 64]⟩
abbrev S2048 : Shape := ⟨1, ![2048]⟩
abbrev S128 : Shape := ⟨1, ![128]⟩
abbrev S8192x4x128x16 : Shape := ⟨4, ![8192, 4, 128, 16]⟩
abbrev S128x1 : Shape := ⟨2, ![128, 1]⟩
abbrev S_ : Shape := ⟨0, ![]⟩
abbrev S128x64x1 : Shape := ⟨3, ![128, 64, 1]⟩
abbrev S128x16 : Shape := ⟨2, ![128, 16]⟩
abbrev S4x128x64 : Shape := ⟨3, ![4, 128, 64]⟩
abbrev S1x4x128x16 : Shape := ⟨4, ![1, 4, 128, 16]⟩
abbrev S4x128x16 : Shape := ⟨3, ![4, 128, 16]⟩
abbrev S128x64x4 : Shape := ⟨3, ![128, 64, 4]⟩
abbrev S128x16x4 : Shape := ⟨3, ![128, 16, 4]⟩
abbrev S1x128x16 : Shape := ⟨3, ![1, 128, 16]⟩

abbrev nBuf : Space → Nat
  | .hbm => 140
  | .vmem => 0
  | .smem => 0
  | _ => 0

abbrev hbmTy0_0 (i : Nat) : BufTy := match i % 128 with
  | 0 => ⟨S32768x2048, .f32⟩
  | 1 => ⟨S1x128x64, .f32⟩
  | 2 => ⟨S1x128x64, .f32⟩
  | 3 => ⟨S1x128x64x16, .f32⟩
  | 4 => ⟨S1x128x64x16, .f32⟩
  | 5 => ⟨S1x128x16x64, .f32⟩
  | 6 => ⟨S1x128x16x64, .f32⟩
  | 7 => ⟨S1x2048, .f32⟩
  | 8 => ⟨S1x128, .f32⟩
  | 9 => ⟨S128x64, .f32⟩
  | 10 => ⟨S128x64, .f32⟩
  | 11 => ⟨S128x64x16, .f32⟩
  | 12 => ⟨S128x64x16, .f32⟩
  | 13 => ⟨S128x16x64, .f32⟩
  | 14 => ⟨S128x16x64, .f32⟩
  | 15 => ⟨S2048, .f32⟩
  | 16 => ⟨S128, .f32⟩
  | 17 => ⟨S8192x4x128x16, .f32⟩
  | 18 => ⟨S128, .f32⟩
  | 19 => ⟨S128x1, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S128x64, .f32⟩
  | 34 => ⟨S_, .f32⟩
  | 35 => ⟨S128x64, .f32⟩
  | 36 => ⟨S128x64, .f32⟩
  | 37 => ⟨S128x64, .f32⟩
  | 38 => ⟨S128x64, .f32⟩
  | 39 => ⟨S128x64, .f32⟩
  | 40 => ⟨S128x64, .f32⟩
  | 41 => ⟨S128x64x1, .f32⟩
  | 42 => ⟨S128x64, .f32⟩
  | 43 => ⟨S_, .f32⟩
  | 44 => ⟨S128x64, .f32⟩
  | 45 => ⟨S128x64, .f32⟩
  | 46 => ⟨S128x64, .f32⟩
  | 47 => ⟨S128x64, .f32⟩
  | 48 => ⟨S128x64, .f32⟩
  | 49 => ⟨S128x64x1, .f32⟩
  | 50 => ⟨S128x64x16, .f32⟩
  | 51 => ⟨S128x64x16, .f32⟩
  | 52 => ⟨S128x64x16, .f32⟩
  | 53 => ⟨S128x64x16, .f32⟩
  | 54 => ⟨S128x64x16, .f32⟩
  | 55 => ⟨S128x64x16, .f32⟩
  | 56 => ⟨S128x64x16, .f32⟩
  | 57 => ⟨S128x64x16, .f32⟩
  | 58 => ⟨S128x64x16, .f32⟩
  | 59 => ⟨S128x64x16, .f32⟩
  | 60 => ⟨S128x16, .f32⟩
  | 61 => ⟨S_, .f32⟩
  | 62 => ⟨S4x128x64, .f32⟩
  | 63 => ⟨S_, .f32⟩
  | 64 => ⟨S8192x4x128x16, .f32⟩
  | 65 => ⟨S_, .i32⟩
  | 66 => ⟨S8192x4x128x16, .f32⟩
  | 67 => ⟨S128x64, .f32⟩
  | 68 => ⟨S128x64, .f32⟩
  | 69 => ⟨S128x64x16, .f32⟩
  | 70 => ⟨S128x64x16, .f32⟩
  | 71 => ⟨S128x16x64, .f32⟩
  | 72 => ⟨S128x16x64, .f32⟩
  | 73 => ⟨S128x16, .f32⟩
  | 74 => ⟨S_, .i32⟩
  | 75 => ⟨S4x128x64, .f32⟩
  | 76 => ⟨S4x128x64, .f32⟩
  | 77 => ⟨S8192x4x128x16, .f32⟩
  | 78 => ⟨S_, .i32⟩
  | 79 => ⟨S_, .i1⟩
  | 80 => ⟨S_, .i32⟩
  | 81 => ⟨S_, .i32⟩
  | 82 => ⟨S_, .i32⟩
  | 83 => ⟨S1x4x128x16, .f32⟩
  | 84 => ⟨S4x128x16, .f32⟩
  | 85 => ⟨S1x128x64, .f32⟩
  | 86 => ⟨S4x128x64, .f32⟩
  | 87 => ⟨S4x128x64, .f32⟩
  | 88 => ⟨S1x128x64, .f32⟩
  | 89 => ⟨S4x128x64, .f32⟩
  | 90 => ⟨S4x128x64, .f32⟩
  | 91 => ⟨S4x128x64, .f32⟩
  | 92 => ⟨S128x64x4, .f32⟩
  | 93 => ⟨S4x128x64, .f32⟩
  | 94 => ⟨S4x128x64, .f32⟩
  | 95 => ⟨S1x128x64, .f32⟩
  | 96 => ⟨S4x128x64, .f32⟩
  | 97 => ⟨S4x128x64, .f32⟩
  | 98 => ⟨S1x128x64, .f32⟩
  | 99 => ⟨S4x128x64, .f32⟩
  | 100 => ⟨S4x128x64, .f32⟩
  | 101 => ⟨S4x128x64, .f32⟩
  | 102 => ⟨S128x64x4, .f32⟩
  | 103 => ⟨S4x128x64, .f32⟩
  | 104 => ⟨S4x128x64, .f32⟩
  | 105 => ⟨S128x16x4, .f32⟩
  | 106 => ⟨S4x128x16, .f32⟩
  | 107 => ⟨S128x16x4, .f32⟩
  | 108 => ⟨S4x128x16, .f32⟩
  | 109 => ⟨S4x128x16, .f32⟩
  | 110 => ⟨S1x128x16, .f32⟩
  | 111 => ⟨S4x128x16, .f32⟩
  | 112 => ⟨S4x128x16, .f32⟩
  | 113 => ⟨S4x128x16, .f32⟩
  | 114 => ⟨S1x4x128x16, .f32⟩
  | 115 => ⟨S_, .i32⟩
  | 116 => ⟨S_, .i32⟩
  | 117 => ⟨S_, .i32⟩
  | 118 => ⟨S8192x4x128x16, .f32⟩
  | 119 => ⟨S_, .i32⟩
  | 120 => ⟨S_, .i32⟩
  | 121 => ⟨S32768x2048, .f32⟩
  | 122 => ⟨S32768x2048, .f32⟩
  | 123 => ⟨S32768x2048, .f32⟩
  | 124 => ⟨S_, .f32⟩
  | 125 => ⟨S32768x2048, .f32⟩
  | 126 => ⟨S32768x2048, .f32⟩
  | 127 => ⟨S32768x2048, .f32⟩
  | _ => ⟨S32768x2048, .f32⟩

abbrev hbmTy0_1 (i : Nat) : BufTy := match i % 128 with
  | 0 => ⟨S_, .f32⟩
  | 1 => ⟨S32768x2048, .f32⟩
  | 2 => ⟨S32768x2048, .f32⟩
  | 3 => ⟨S32768x2048, .f32⟩
  | 4 => ⟨S_, .f32⟩
  | 5 => ⟨S32768x2048, .f32⟩
  | 6 => ⟨S32768x2048, .f32⟩
  | 7 => ⟨S_, .f32⟩
  | 8 => ⟨S32768x2048, .f32⟩
  | 9 => ⟨S32768x2048, .f32⟩
  | 10 => ⟨S32768x2048, .f32⟩
  | 11 => ⟨S32768x2048, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_1 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_c : Ref sig .tc := ⟨.hbm, 65, rfl⟩
abbrev main_v52_0 : Ref sig .tc := ⟨.hbm, 66, rfl⟩
abbrev main_v52_1 : Ref sig .tc := ⟨.hbm, 67, rfl⟩
abbrev main_v52_2 : Ref sig .tc := ⟨.hbm, 68, rfl⟩
abbrev main_v52_3 : Ref sig .tc := ⟨.hbm, 69, rfl⟩
abbrev main_v52_4 : Ref sig .tc := ⟨.hbm, 70, rfl⟩
abbrev main_v52_5 : Ref sig .tc := ⟨.hbm, 71, rfl⟩
abbrev main_v52_6 : Ref sig .tc := ⟨.hbm, 72, rfl⟩
abbrev main_v52_7 : Ref sig .tc := ⟨.hbm, 73, rfl⟩
abbrev main_v52_8 : Ref sig .tc := ⟨.hbm, 74, rfl⟩
abbrev main_v52_9 : Ref sig .tc := ⟨.hbm, 75, rfl⟩
abbrev main_v52_10 : Ref sig .tc := ⟨.hbm, 76, rfl⟩
abbrev main_v52_11 : Ref sig .tc := ⟨.hbm, 77, rfl⟩
abbrev main_while0c_c_18 : Ref sig .tc := ⟨.hbm, 78, rfl⟩
abbrev main_while0c_v68 : Ref sig .tc := ⟨.hbm, 79, rfl⟩
abbrev main_while0b_call0_c : Ref sig .tc := ⟨.hbm, 80, rfl⟩
abbrev main_while0b_call0_c_0 : Ref sig .tc := ⟨.hbm, 81, rfl⟩
abbrev main_while0b_call0_c_1 : Ref sig .tc := ⟨.hbm, 82, rfl⟩
abbrev main_while0b_call0_v0 : Ref sig .tc := ⟨.hbm, 83, rfl⟩
abbrev main_while0b_v68 : Ref sig .tc := ⟨.hbm, 84, rfl⟩
abbrev main_while0b_v69 : Ref sig .tc := ⟨.hbm, 85, rfl⟩
abbrev main_while0b_v70 : Ref sig .tc := ⟨.hbm, 86, rfl⟩
abbrev main_while0b_v71 : Ref sig .tc := ⟨.hbm, 87, rfl⟩
abbrev main_while0b_v72 : Ref sig .tc := ⟨.hbm, 88, rfl⟩
abbrev main_while0b_v73 : Ref sig .tc := ⟨.hbm, 89, rfl⟩
abbrev main_while0b_v74 : Ref sig .tc := ⟨.hbm, 90, rfl⟩
abbrev main_while0b_v75 : Ref sig .tc := ⟨.hbm, 91, rfl⟩
abbrev main_while0b_v76 : Ref sig .tc := ⟨.hbm, 92, rfl⟩
abbrev main_while0b_v77 : Ref sig .tc := ⟨.hbm, 93, rfl⟩
abbrev main_while0b_v78 : Ref sig .tc := ⟨.hbm, 94, rfl⟩
abbrev main_while0b_v79 : Ref sig .tc := ⟨.hbm, 95, rfl⟩
abbrev main_while0b_v80 : Ref sig .tc := ⟨.hbm, 96, rfl⟩
abbrev main_while0b_v81 : Ref sig .tc := ⟨.hbm, 97, rfl⟩
abbrev main_while0b_v82 : Ref sig .tc := ⟨.hbm, 98, rfl⟩
abbrev main_while0b_v83 : Ref sig .tc := ⟨.hbm, 99, rfl⟩
abbrev main_while0b_v84 : Ref sig .tc := ⟨.hbm, 100, rfl⟩
abbrev main_while0b_v85 : Ref sig .tc := ⟨.hbm, 101, rfl⟩
abbrev main_while0b_v86 : Ref sig .tc := ⟨.hbm, 102, rfl⟩
abbrev main_while0b_v87 : Ref sig .tc := ⟨.hbm, 103, rfl⟩
abbrev main_while0b_v88 : Ref sig .tc := ⟨.hbm, 104, rfl⟩
abbrev main_while0b_v89 : Ref sig .tc := ⟨.hbm, 105, rfl⟩
abbrev main_while0b_v90 : Ref sig .tc := ⟨.hbm, 106, rfl⟩
abbrev main_while0b_v91 : Ref sig .tc := ⟨.hbm, 107, rfl⟩
abbrev main_while0b_v92 : Ref sig .tc := ⟨.hbm, 108, rfl⟩
abbrev main_while0b_v93 : Ref sig .tc := ⟨.hbm, 109, rfl⟩
abbrev main_while0b_v94 : Ref sig .tc := ⟨.hbm, 110, rfl⟩
abbrev main_while0b_v95 : Ref sig .tc := ⟨.hbm, 111, rfl⟩
abbrev main_while0b_v96 : Ref sig .tc := ⟨.hbm, 112, rfl⟩
abbrev main_while0b_v97 : Ref sig .tc := ⟨.hbm, 113, rfl⟩
abbrev main_while0b_call1_v0 : Ref sig .tc := ⟨.hbm, 114, rfl⟩
abbrev main_while0b_call1_c : Ref sig .tc := ⟨.hbm, 115, rfl⟩
abbrev main_while0b_call1_c_0 : Ref sig .tc := ⟨.hbm, 116, rfl⟩
abbrev main_while0b_call1_c_1 : Ref sig .tc := ⟨.hbm, 117, rfl⟩
abbrev main_while0b_v98 : Ref sig .tc := ⟨.hbm, 118, rfl⟩
abbrev main_while0b_c_18 : Ref sig .tc := ⟨.hbm, 119, rfl⟩
abbrev main_while0b_v99 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_3 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_cst_4 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_cst_5 : Ref sig .tc := ⟨.hbm, 132, rfl⟩
abbrev main_v62 : Ref sig .tc := ⟨.hbm, 133, rfl⟩
abbrev main_v63 : Ref sig .tc := ⟨.hbm, 134, rfl⟩
abbrev main_cst_6 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩

abbrev nD : Nat := 1
abbrev τ : Topo := Topo.v7x

variable {F : FTy → Type} [FloatOps F]

abbrev main_while0_count : Scf.Loop 32 := ⟨0#32, 8192#32, 1#32⟩
-- ==== GdnIn.lean ====
abbrev S32768x2048 : Shape := ⟨2, ![32768, 2048]⟩
abbrev S2x2048x12352 : Shape := ⟨3, ![2, 2048, 12352]⟩
abbrev S1x2048x12352 : Shape := ⟨3, ![1, 2048, 12352]⟩
abbrev S2048x12352 : Shape := ⟨2, ![2048, 12352]⟩
abbrev S2048x64 : Shape := ⟨2, ![2048, 64]⟩
abbrev S_ : Shape := ⟨0, ![]⟩
abbrev S2048x128 : Shape := ⟨2, ![2048, 128]⟩
abbrev S32768x12288 : Shape := ⟨2, ![32768, 12288]⟩
abbrev S32768x128 : Shape := ⟨2, ![32768, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩

abbrev nBuf : Space → Nat
  | .hbm => 11
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2x2048x12352, .f32⟩
  | .hbm, ⟨2, _⟩ => ⟨S1x2048x12352, .f32⟩
  | .hbm, ⟨3, _⟩ => ⟨S2048x12352, .f32⟩
  | .hbm, ⟨4, _⟩ => ⟨S2048x12352, .bf16⟩
  | .hbm, ⟨5, _⟩ => ⟨S2048x64, .bf16⟩
  | .hbm, ⟨6, _⟩ => ⟨S_, .i32⟩
  | .hbm, ⟨7, _⟩ => ⟨S_, .bf16⟩
  | .hbm, ⟨8, _⟩ => ⟨S2048x128, .bf16⟩
  | .hbm, ⟨9, _⟩ => ⟨S32768x12288, .f32⟩
  | .hbm, ⟨10, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 12], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GdnInRefIdeal.lean ====
abbrev S32768x2048 : Shape := ⟨2, ![32768, 2048]⟩
abbrev S2x2048x12352 : Shape := ⟨3, ![2, 2048, 12352]⟩
abbrev S1x2048x12352 : Shape := ⟨3, ![1, 2048, 12352]⟩
abbrev S2048x12352 : Shape := ⟨2, ![2048, 12352]⟩
abbrev S32768x12352 : Shape := ⟨2, ![32768, 12352]⟩
abbrev S32768x12288 : Shape := ⟨2, ![32768, 12288]⟩
abbrev S32768x64 : Shape := ⟨2, ![32768, 64]⟩
abbrev S_ : Shape := ⟨0, ![]⟩
abbrev S32768x128 : Shape := ⟨2, ![32768, 128]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x2048x12352, .f32⟩
  | .hbm, ⟨2, _⟩ => ⟨S1x2048x12352, .f32⟩
  | .hbm, ⟨3, _⟩ => ⟨S2048x12352, .f32⟩
  | .hbm, ⟨4, _⟩ => ⟨S32768x12352, .f32⟩
  | .hbm, ⟨5, _⟩ => ⟨S32768x12288, .f32⟩
  | .hbm, ⟨6, _⟩ => ⟨S32768x64, .f32⟩
  | .hbm, ⟨7, _⟩ => ⟨S_, .i32⟩
  | .hbm, ⟨8, _⟩ => ⟨S_, .f32⟩
  | .hbm, ⟨9, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GlaIn.lean ====
abbrev S32768x2048 : Shape := ⟨2, ![32768, 2048]⟩
abbrev S1x2048x6160 : Shape := ⟨3, ![1, 2048, 6160]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S32768x6144 : Shape := ⟨2, ![32768, 6144]⟩
abbrev S32768x128 : Shape := ⟨2, ![32768, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩

abbrev nBuf : Space → Nat
  | .hbm => 10
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S1x2048x6160, .f32⟩
  | .hbm, ⟨2, _⟩ => ⟨S2048x6160, .f32⟩
  | .hbm, ⟨3, _⟩ => ⟨S2048x6160, .bf16⟩
  | .hbm, ⟨4, _⟩ => ⟨S2048x16, .bf16⟩
  | .hbm, ⟨5, _⟩ => ⟨S_, .i32⟩
  | .hbm, ⟨6, _⟩ => ⟨S_, .bf16⟩
  | .hbm, ⟨7, _⟩ => ⟨S2048x128, .bf16⟩
  | .hbm, ⟨8, _⟩ => ⟨S32768x6144, .f32⟩
  | .hbm, ⟨9, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GlaInRefIdeal.lean ====
abbrev S32768x2048 : Shape := ⟨2, ![32768, 2048]⟩
abbrev S1x2048x6160 : Shape := ⟨3, ![1, 2048, 6160]⟩
abbrev S2048x6160 : Shape := ⟨2, ![2048, 6160]⟩
abbrev S32768x6160 : Shape := ⟨2, ![32768, 6160]⟩
abbrev S32768x6144 : Shape := ⟨2, ![32768, 6144]⟩
abbrev S32768x16 : Shape := ⟨2, ![32768, 16]⟩
abbrev S_ : Shape := ⟨0, ![]⟩
abbrev S32768x128 : Shape := ⟨2, ![32768, 128]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048x6160, .f32⟩
  | .hbm, ⟨2, _⟩ => ⟨S2048x6160, .f32⟩
  | .hbm, ⟨3, _⟩ => ⟨S32768x6160, .f32⟩
  | .hbm, ⟨4, _⟩ => ⟨S32768x6144, .f32⟩
  | .hbm, ⟨5, _⟩ => ⟨S32768x16, .f32⟩
  | .hbm, ⟨6, _⟩ => ⟨S_, .i32⟩
  | .hbm, ⟨7, _⟩ => ⟨S_, .f32⟩
  | .hbm, ⟨8, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GdnOut.lean ====
abbrev S32768x4096 : Shape := ⟨2, ![32768, 4096]⟩
abbrev S2x4096x2048 : Shape := ⟨3, ![2, 4096, 2048]⟩
abbrev S32768x2048 : Shape := ⟨2, ![32768, 2048]⟩
abbrev S4x3x2048 : Shape := ⟨3, ![4, 3, 2048]⟩
abbrev S1x4096x2048 : Shape := ⟨3, ![1, 4096, 2048]⟩
abbrev S4096x2048 : Shape := ⟨2, ![4096, 2048]⟩
abbrev S1x1x2048 : Shape := ⟨3, ![1, 1, 2048]⟩
abbrev S2048 : Shape := ⟨1, ![2048]⟩
abbrev S1x2048 : Shape := ⟨2, ![1, 2048]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 9
  | .smem => 0
  | _ => 0

abbrev bufTy : (tb : Table) → Fin (tcTables nBuf tb) → BufTy
  | .hbm, ⟨0, _⟩ => ⟨S32768x4096, .bf16⟩
  | .hbm, ⟨1, _⟩ => ⟨S2x4096x2048, .f32⟩
  | .hbm, ⟨2, _⟩ => ⟨S32768x2048, .f32⟩
  | .hbm, ⟨3, _⟩ => ⟨S4x3x2048, .f32⟩
  | .hbm, ⟨4, _⟩ => ⟨S4x3x2048, .f32⟩
  | .hbm, ⟨5, _⟩ => ⟨S1x4096x2048, .f32⟩
  | .hbm, ⟨6, _⟩ => ⟨S4096x2048, .f32⟩
  | .hbm, ⟨7, _⟩ => ⟨S4096x2048, .bf16⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S32768x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GdnOutRefIdeal.lean ====
abbrev S32768x4096 : Shape := ⟨2, ![32768, 4096]⟩
abbrev S2x4096x2048 : Shape := ⟨3, ![2, 4096, 2048]⟩
abbrev S32768x2048 : Shape := ⟨2, ![32768, 2048]⟩
abbrev S4x3x2048 : Shape := ⟨3, ![4, 3, 2048]⟩
abbrev S_ : Shape := ⟨0, ![]⟩
abbrev S1x4096x2048 : Shape := ⟨3, ![1, 4096, 2048]⟩
abbrev S4096x2048 : Shape := ⟨2, ![4096, 2048]⟩
abbrev S1x1x2048 : Shape := ⟨3, ![1, 1, 2048]⟩
abbrev S2048 : Shape := ⟨1, ![2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S2x4096x2048, .f32⟩
  | .hbm, ⟨2, _⟩ => ⟨S32768x2048, .f32⟩
  | .hbm, ⟨3, _⟩ => ⟨S4x3x2048, .f32⟩
  | .hbm, ⟨4, _⟩ => ⟨S4x3x2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x4096, .f32⟩
  | .hbm, ⟨9, _⟩ => ⟨S1x4096x2048, .f32⟩
  | .hbm, ⟨10, _⟩ => ⟨S4096x2048, .f32⟩
  | .hbm, ⟨11, _⟩ => ⟨S32768x2048, .f32⟩
  | .hbm, ⟨12, _⟩ => ⟨S32768x2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S2048, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S1x2048, .f32⟩
  | .hbm, ⟨42, _⟩ => ⟨S32768x2048, .f32⟩
  | .hbm, ⟨43, _⟩ => ⟨S32768x2048, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== GlaOut.lean ====
abbrev S32768x2048 : Shape := ⟨2, ![32768, 2048]⟩
abbrev S1x2048x2048 : Shape := ⟨3, ![1, 2048, 2048]⟩
abbrev S4x3x2048 : Shape := ⟨3, ![4, 3, 2048]⟩
abbrev S2048x2048 : Shape := ⟨2, ![2048, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 9
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S32768x2048, .f32⟩
  | .hbm, ⟨3, _⟩ => ⟨S4x3x2048, .f32⟩
  | .hbm, ⟨4, _⟩ => ⟨S4x3x2048, .f32⟩
  | .hbm, ⟨5, _⟩ => ⟨S2048x2048, .f32⟩
  | .hbm, ⟨6, _⟩ => ⟨S2048x2048, .bf16⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GlaOutRefIdeal.lean ====
abbrev S32768x2048 : Shape := ⟨2, ![32768, 2048]⟩
abbrev S1x2048x2048 : Shape := ⟨3, ![1, 2048, 2048]⟩
abbrev S4x3x2048 : Shape := ⟨3, ![4, 3, 2048]⟩
abbrev S_ : Shape := ⟨0, ![]⟩
abbrev S2048x2048 : Shape := ⟨2, ![2048, 2048]⟩
abbrev S1x1x2048 : Shape := ⟨3, ![1, 1, 2048]⟩
abbrev S2048 : Shape := ⟨1, ![2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S32768x2048, .f32⟩
  | .hbm, ⟨3, _⟩ => ⟨S4x3x2048, .f32⟩
  | .hbm, ⟨4, _⟩ => ⟨S4x3x2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S2048x2048, .f32⟩
  | .hbm, ⟨10, _⟩ => ⟨S32768x2048, .f32⟩
  | .hbm, ⟨11, _⟩ => ⟨S32768x2048, .f32⟩
  | .hbm, ⟨12, _⟩ => ⟨S1x1x2048, .f32⟩
  | .hbm, ⟨13, _⟩ => ⟨S2048, .f32⟩
  | .hbm, ⟨14, _⟩ => ⟨S1x1x2048, .f32⟩
  | .hbm, ⟨15, _⟩ => ⟨S2048, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S1x2048, .f32⟩
  | .hbm, ⟨38, _⟩ => ⟨S32768x2048, .f32⟩
  | .hbm, ⟨39, _⟩ => ⟨S32768x2048, .f32⟩
  | .hbm, ⟨40, _⟩ => ⟨S1x2048, .f32⟩
  | .hbm, ⟨41, _⟩ => ⟨S32768x2048, .f32⟩
  | .hbm, ⟨42, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Glu.lean ====
abbrev S32768x2048 : Shape := ⟨2, ![32768, 2048]⟩
abbrev S1x2048x4096 : Shape := ⟨3, ![1, 2048, 4096]⟩
abbrev S4x3x2048 : Shape := ⟨3, ![4, 3, 2048]⟩
abbrev S2048x4096 : Shape := ⟨2, ![2048, 4096]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S1x2048x4096, .f32⟩
  | .hbm, ⟨2, _⟩ => ⟨S32768x2048, .f32⟩
  | .hbm, ⟨3, _⟩ => ⟨S4x3x2048, .f32⟩
  | .hbm, ⟨4, _⟩ => ⟨S4x3x2048, .f32⟩
  | .hbm, ⟨5, _⟩ => ⟨S2048x4096, .f32⟩
  | .hbm, ⟨6, _⟩ => ⟨S2048x4096, .bf16⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GluRefIdeal.lean ====
abbrev S32768x2048 : Shape := ⟨2, ![32768, 2048]⟩
abbrev S1x2048x4096 : Shape := ⟨3, ![1, 2048, 4096]⟩
abbrev S4x3x2048 : Shape := ⟨3, ![4, 3, 2048]⟩
abbrev S2048x4096 : Shape := ⟨2, ![2048, 4096]⟩
abbrev S32768x4096 : Shape := ⟨2, ![32768, 4096]⟩
abbrev S_ : Shape := ⟨0, ![]⟩
abbrev S1x1x2048 : Shape := ⟨3, ![1, 1, 2048]⟩
abbrev S2048 : Shape := ⟨1, ![2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x4096, .f32⟩
  | .hbm, ⟨2, _⟩ => ⟨S32768x2048, .f32⟩
  | .hbm, ⟨3, _⟩ => ⟨S4x3x2048, .f32⟩
  | .hbm, ⟨4, _⟩ => ⟨S4x3x2048, .f32⟩
  | .hbm, ⟨5, _⟩ => ⟨S32768x2048, .f32⟩
  | .hbm, ⟨6, _⟩ => ⟨S2048x4096, .f32⟩
  | .hbm, ⟨7, _⟩ => ⟨S32768x4096, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S1x1x2048, .f32⟩
  | .hbm, ⟨24, _⟩ => ⟨S2048, .f32⟩
  | .hbm, ⟨25, _⟩ => ⟨S1x1x2048, .f32⟩
  | .hbm, ⟨26, _⟩ => ⟨S2048, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x2048, .f32⟩
  | .hbm, ⟨47, _⟩ => ⟨S32768x2048, .f32⟩
  | .hbm, ⟨48, _⟩ => ⟨S1x2048, .f32⟩
  | .hbm, ⟨49, _⟩ => ⟨S32768x2048, .f32⟩
  | .hbm, ⟨50, _⟩ => ⟨S32768x2048, .f32⟩
  | .hbm, ⟨51, _⟩ => ⟨S1x2048, .f32⟩
  | .hbm, ⟨52, _⟩ => ⟨S32768x2048, .f32⟩
  | .hbm, ⟨53, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Gla.lean ====
abbrev S32768x6144 : Shape := ⟨2, ![32768, 6144]⟩
abbrev S32768x128 : Shape := ⟨2, ![32768, 128]⟩
abbrev S1x16x1024 : Shape := ⟨3, ![1, 16, 1024]⟩
abbrev S1x1024 : Shape := ⟨2, ![1, 1024]⟩
abbrev S1x512 : Shape := ⟨2, ![1, 512]⟩
abbrev S16x1024 : Shape := ⟨2, ![16, 1024]⟩
abbrev S1024 : Shape := ⟨1, ![1024]⟩
abbrev S512 : Shape := ⟨1, ![512]⟩
abbrev S_ : Shape := ⟨0, ![]⟩
abbrev S128x1024 : Shape := ⟨2, ![128, 1024]⟩
abbrev S32768x2048 : Shape := ⟨2, ![32768, 2048]⟩
abbrev S512x1024 : Shape := ⟨2, ![512, 1024]⟩
abbrev S512x2048 : Shape := ⟨2, ![512, 2048]⟩
abbrev S512x128 : Shape := ⟨2, ![512, 128]⟩
abbrev S4x512x256 : Shape := ⟨3, ![4, 512, 256]⟩
abbrev S64x1024 : Shape := ⟨2, ![64, 1024]⟩
abbrev S64x64 : Shape := ⟨2, ![64, 64]⟩
abbrev S8x256 : Shape := ⟨2, ![8, 256]⟩
abbrev S8x128 : Shape := ⟨2, ![8, 128]⟩
abbrev S16x256 : Shape := ⟨2, ![16, 256]⟩
abbrev S16x128 : Shape := ⟨2, ![16, 128]⟩
abbrev S1x256 : Shape := ⟨2, ![1, 256]⟩
abbrev S8 : Shape := ⟨1, ![8]⟩
abbrev S8x1 : Shape := ⟨2, ![8, 1]⟩
abbrev S112x256 : Shape := ⟨2, ![112, 256]⟩
abbrev S128x256 : Shape := ⟨2, ![128, 256]⟩
abbrev S32x256 : Shape := ⟨2, ![32, 256]⟩
abbrev S96x256 : Shape := ⟨2, ![96, 256]⟩
abbrev S48x256 : Shape := ⟨2, ![48, 256]⟩
abbrev S80x256 : Shape := ⟨2, ![80, 256]⟩
abbrev S64x128 : Shape := ⟨2, ![64, 128]⟩
abbrev S1x512x256 : Shape := ⟨3, ![1, 512, 256]⟩
abbrev S512x256 : Shape := ⟨2, ![512, 256]⟩
abbrev S64x512 : Shape := ⟨2, ![64, 512]⟩
abbrev S64x256 : Shape := ⟨2, ![64, 256]⟩
abbrev S64 : Shape := ⟨1, ![64]⟩
abbrev S64x1 : Shape := ⟨2, ![64, 1]⟩

abbrev nBuf : Space → Nat
  | .hbm => 14
  | .vmem => 18
  | .smem => 0
  | _ => 0

abbrev bufTy : (tb : Table) → Fin (tcTables nBuf tb) → BufTy
  | .hbm, ⟨0, _⟩ => ⟨S32768x6144, .f32⟩
  | .hbm, ⟨1, _⟩ => ⟨S32768x128, .f32⟩
  | .hbm, ⟨2, _⟩ => ⟨S1x16x1024, .f32⟩
  | .hbm, ⟨3, _⟩ => ⟨S1x1024, .f32⟩
  | .hbm, ⟨4, _⟩ => ⟨S1x512, .f32⟩
  | .hbm, ⟨5, _⟩ => ⟨S16x1024, .f32⟩
  | .hbm, ⟨6, _⟩ => ⟨S1024, .f32⟩
  | .hbm, ⟨7, _⟩ => ⟨S512, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S1x1024, .f32⟩
  | .hbm, ⟨12, _⟩ => ⟨S1x512, .f32⟩
  | .hbm, ⟨13, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x128, .f32⟩
  | .local _ .vmem, ⟨9, _⟩ => ⟨S512x128, .f32⟩
  | .local _ .vmem, ⟨10, _⟩ => ⟨S128x1024, .f32⟩
  | .local _ .vmem, ⟨11, _⟩ => ⟨S1x1024, .f32⟩
  | .local _ .vmem, ⟨12, _⟩ => ⟨S1x512, .f32⟩
  | .local _ .vmem, ⟨13, _⟩ => ⟨S512x2048, .bf16⟩
  | .local _ .vmem, ⟨14, _⟩ => ⟨S512x2048, .bf16⟩
  | .local _ .vmem, ⟨15, _⟩ => ⟨S4x512x256, .f32⟩
  | .local _ .vmem, ⟨16, _⟩ => ⟨S512x1024, .f32⟩
  | .local _ .vmem, ⟨17, _⟩ => ⟨S64x1024, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_13 : BitVec 32 := 0#32
  let c8_i32 : BitVec 32 := 8#32
  let v44 : BitVec 32 := Scalar.addi c0_i32_13 c8_i32
  let c1_i32 : BitVec 32 := 1#32
  ⟨c0_i32_13, v44, c1_i32⟩
def k0_mult1 (k0_t1 : Fin k0_t1_loop.trips) : BitVec 32 :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  v45
def k0_off1 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v47 : Index := Scalar.indexCast v46
  let c0_15 : Index := 0#32
  ![v47.toNat, 0]
def k0_off2 (k0_t1 : Fin k0_t1_loop.trips) (c0_i32_22 : BitVec 32) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v66 : BitVec 32 := Scalar.addi v46 c0_i32_22
  let v67 : Index := Scalar.indexCast v66
  let c0_23 : Index := 0#32
  ![v67.toNat, 0]
def k0_off3 (k0_t1 : Fin k0_t1_loop.trips) (c0_i32_25 : BitVec 32) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v71 : BitVec 32 := Scalar.addi v46 c0_i32_25
  let v72 : Index := Scalar.indexCast v71
  let c256 : Index := 256#32
  ![v72.toNat, 256]
def k0_off4 (k0_t1 : Fin k0_t1_loop.trips) (c0_i32_27 : BitVec 32) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v76 : BitVec 32 := Scalar.addi v46 c0_i32_27
  let v77 : Index := Scalar.indexCast v76
  let c512 : Index := 512#32
  ![v77.toNat, 512]
def k0_off5 (k0_t1 : Fin k0_t1_loop.trips) (c0_i32_29 : BitVec 32) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v81 : BitVec 32 := Scalar.addi v46 c0_i32_29
  let v82 : Index := Scalar.indexCast v81
  let c768 : Index := 768#32
  ![v82.toNat, 768]
def k0_off6 (k0_t1 : Fin k0_t1_loop.trips) (c0_i32_43 : BitVec 32) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v97 : BitVec 32 := Scalar.addi v46 c0_i32_43
  let v98 : Index := Scalar.indexCast v97
  let c0_44 : Index := 0#32
  ![v98.toNat, 0]
def k0_off7 (k0_t1 : Fin k0_t1_loop.trips) (c0_i32_191 : BitVec 32) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v575 : BitVec 32 := Scalar.addi v46 c0_i32_191
  let v576 : Index := Scalar.indexCast v575
  let c256_192 : Index := 256#32
  ![v576.toNat, 256]
def k0_off8 (k0_t1 : Fin k0_t1_loop.trips) (c0_i32_367 : BitVec 32) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v1053 : BitVec 32 := Scalar.addi v46 c0_i32_367
  let v1054 : Index := Scalar.indexCast v1053
  let c512_368 : Index := 512#32
  ![v1054.toNat, 512]
def k0_off9 (k0_t1 : Fin k0_t1_loop.trips) (c0_i32_543 : BitVec 32) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v1531 : BitVec 32 := Scalar.addi v46 c0_i32_543
  let v1532 : Index := Scalar.indexCast v1531
  let c768_544 : Index := 768#32
  ![v1532.toNat, 768]
def k0_off10 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v2036 : Index := Scalar.indexCast v46
  let c0_739 : Index := 0#32
  ![v2036.toNat, 0]
def k0_off11 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v2053 : Index := Scalar.indexCast v46
  let c256_746 : Index := 256#32
  ![v2053.toNat, 256]
def k0_off12 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v2070 : Index := Scalar.indexCast v46
  let c512_753 : Index := 512#32
  ![v2070.toNat, 512]
def k0_off13 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v2087 : Index := Scalar.indexCast v46
  let c768_760 : Index := 768#32
  ![v2087.toNat, 768]
def k0_off14 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v4040 : Index := Scalar.indexCast v46
  let c0_1459 : Index := 0#32
  ![v4040.toNat, 0]
def k0_off15 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v4057 : Index := Scalar.indexCast v46
  let c256_1466 : Index := 256#32
  ![v4057.toNat, 256]
def k0_off16 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v4074 : Index := Scalar.indexCast v46
  let c512_1473 : Index := 512#32
  ![v4074.toNat, 512]
def k0_off17 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v4091 : Index := Scalar.indexCast v46
  let c768_1480 : Index := 768#32
  ![v4091.toNat, 768]
def k0_off18 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v6044 : Index := Scalar.indexCast v46
  let c0_2179 : Index := 0#32
  ![v6044.toNat, 0]
def k0_off19 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v6061 : Index := Scalar.indexCast v46
  let c256_2186 : Index := 256#32
  ![v6061.toNat, 256]
def k0_off20 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v6078 : Index := Scalar.indexCast v46
  let c512_2193 : Index := 512#32
  ![v6078.toNat, 512]
def k0_off21 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v6095 : Index := Scalar.indexCast v46
  let c768_2200 : Index := 768#32
  ![v6095.toNat, 768]
def k0_off22 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v8054 : Index := Scalar.indexCast v46
  let c0_2894 : Index := 0#32
  ![v8054.toNat, 0]
def k0_off23 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v8057 : Index := Scalar.indexCast v46
  let c512_2895 : Index := 512#32
  ![v8057.toNat, 512]
def k0_off24 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v8060 : Index := Scalar.indexCast v46
  let c1024 : Index := 1024#32
  ![v8060.toNat, 1024]
def k0_off25 (k0_t1 : Fin k0_t1_loop.trips) : Fin 2 → Nat :=
  let c0_i32_13 : BitVec 32 := 0#32
  let c1_i32 : BitVec 32 := 1#32
  let arg14 : BitVec 32 := Scf.iv c0_i32_13 c1_i32 k0_t1
  let c64_i32 : BitVec 32 := 64#32
  let v45 : BitVec 32 := Scalar.muli arg14 c64_i32
  let v46 : BitVec 32 := v45
  let v8063 : Index := Scalar.indexCast v46
  let c1536 : Index := 1536#32
  ![v8063.toNat, 1536]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Gdn.lean ====
abbrev S32768x12288 : Shape := ⟨2, ![32768, 12288]⟩
abbrev S32768x128 : Shape := ⟨2, ![32768, 128]⟩
abbrev S2x4x8192 : Shape := ⟨3, ![2, 4, 8192]⟩
abbrev S2x32 : Shape := ⟨2, ![2, 32]⟩
abbrev S2x128 : Shape := ⟨2, ![2, 128]⟩
abbrev S1x4x8192 : Shape := ⟨3, ![1, 4, 8192]⟩
abbrev S4x8192 : Shape := ⟨2, ![4, 8192]⟩
abbrev S1x32 : Shape := ⟨2, ![1, 32]⟩
abbrev S32 : Shape := ⟨1, ![32]⟩
abbrev S1x128 : Shape := ⟨2, ![1, 128]⟩
abbrev S128 : Shape := ⟨1, ![128]⟩
abbrev S128x32768 : Shape := ⟨2, ![128, 32768]⟩
abbrev S32768x4096 : Shape := ⟨2, ![32768, 4096]⟩
abbrev S256x512 : Shape := ⟨2, ![256, 512]⟩
abbrev S256x1024 : Shape := ⟨2, ![256, 1024]⟩
abbrev S4x512 : Shape := ⟨2, ![4, 512]⟩
abbrev S4x1024 : Shape := ⟨2, ![4, 1024]⟩
abbrev S128x256 : Shape := ⟨2, ![128, 256]⟩
abbrev S8x512 : Shape := ⟨2, ![8, 512]⟩
abbrev S8x1024 : Shape := ⟨2, ![8, 1024]⟩
abbrev S8x256 : Shape := ⟨2, ![8, 256]⟩
abbrev S256x128 : Shape := ⟨2, ![256, 128]⟩
abbrev S8x128x128 : Shape := ⟨3, ![8, 128, 128]⟩
abbrev S256x256 : Shape := ⟨2, ![256, 256]⟩
abbrev S256x1 : Shape := ⟨2, ![256, 1]⟩
abbrev S1x256 : Shape := ⟨2, ![1, 256]⟩
abbrev S1 : Shape := ⟨1, ![1]⟩
abbrev S32x8x128 : Shape := ⟨3, ![32, 8, 128]⟩
abbrev S8x128 : Shape := ⟨2, ![8, 128]⟩
abbrev S1x8x128 : Shape := ⟨3, ![1, 8, 128]⟩
abbrev S31x8x128 : Shape := ⟨3, ![31, 8, 128]⟩
abbrev S1x1x128 : Shape := ⟨3, ![1, 1, 128]⟩
abbrev S256 : Shape := ⟨1, ![256]⟩
abbrev S64x128 : Shape := ⟨2, ![64, 128]⟩
abbrev S64x256 : Shape := ⟨2, ![64, 256]⟩
abbrev S1x128x128 : Shape := ⟨3, ![1, 128, 128]⟩
abbrev S128x128 : Shape := ⟨2, ![128, 128]⟩
abbrev S1x1 : Shape := ⟨2, ![1, 1]⟩

abbrev nBuf : Space → Nat
  | .hbm => 17
  | .vmem => 29
  | .smem => 2
  | _ => 0

abbrev bufTy : (tb : Table) → Fin (tcTables nBuf tb) → BufTy
  | .hbm, ⟨0, _⟩ => ⟨S32768x12288, .f32⟩
  | .hbm, ⟨1, _⟩ => ⟨S32768x128, .f32⟩
  | .hbm, ⟨2, _⟩ => ⟨S2x4x8192, .f32⟩
  | .hbm, ⟨3, _⟩ => ⟨S2x32, .f32⟩
  | .hbm, ⟨4, _⟩ => ⟨S2x32, .f32⟩
  | .hbm, ⟨5, _⟩ => ⟨S2x128, .f32⟩
  | .hbm, ⟨6, _⟩ => ⟨S1x4x8192, .f32⟩
  | .hbm, ⟨7, _⟩ => ⟨S4x8192, .f32⟩
  | .hbm, ⟨8, _⟩ => ⟨S1x32, .f32⟩
  | .hbm, ⟨9, _⟩ => ⟨S32, .f32⟩
  | .hbm, ⟨10, _⟩ => ⟨S1x32, .f32⟩
  | .hbm, ⟨11, _⟩ => ⟨S32, .f32⟩
  | .hbm, ⟨12, _⟩ => ⟨S1x128, .f32⟩
  | .hbm, ⟨13, _⟩ => ⟨S128, .f32⟩
  | .hbm, ⟨14, _⟩ => ⟨S128x32768, .f32⟩
  | .hbm, ⟨15, _⟩ => ⟨S1x128, .f32⟩
  | .hbm, ⟨16, _⟩ => ⟨S32768x4096, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S4x512, .f32⟩
  | .local _ .vmem, ⟨9, _⟩ => ⟨S4x512, .f32⟩
  | .local _ .vmem, ⟨10, _⟩ => ⟨S4x512, .f32⟩
  | .local _ .vmem, ⟨11, _⟩ => ⟨S4x512, .f32⟩
  | .local _ .vmem, ⟨12, _⟩ => ⟨S4x1024, .f32⟩
  | .local _ .vmem, ⟨13, _⟩ => ⟨S4x1024, .f32⟩
  | .local _ .vmem, ⟨14, _⟩ => ⟨S128x256, .f32⟩
  | .local _ .vmem, ⟨15, _⟩ => ⟨S128x256, .f32⟩
  | .local _ .vmem, ⟨16, _⟩ => ⟨S1x128, .f32⟩
  | .local _ .vmem, ⟨17, _⟩ => ⟨S256x1024, .bf16⟩
  | .local _ .vmem, ⟨18, _⟩ => ⟨S256x1024, .bf16⟩
  | .local _ .vmem, ⟨19, _⟩ => ⟨S8x512, .f32⟩
  | .local _ .vmem, ⟨20, _⟩ => ⟨S8x512, .f32⟩
  | .local _ .vmem, ⟨21, _⟩ => ⟨S8x1024, .f32⟩
  | .local _ .vmem, ⟨22, _⟩ => ⟨S128x256, .f32⟩
  | .local _ .vmem, ⟨23, _⟩ => ⟨S256x512, .f32⟩
  | .local _ .vmem, ⟨24, _⟩ => ⟨S256x512, .f32⟩
  | .local _ .vmem, ⟨25, _⟩ => ⟨S256x1024, .f32⟩
  | .local _ .vmem, ⟨26, _⟩ => ⟨S8x256, .f32⟩
  | .local _ .vmem, ⟨27, _⟩ => ⟨S256x128, .f32⟩
  | .local _ .vmem, ⟨28, _⟩ => ⟨S8x128x128, .f32⟩
  | .local _ .smem, ⟨0, _⟩ => ⟨S32, .f32⟩
  | .local _ .smem, ⟨1, _⟩ => ⟨S32, .f32⟩
  | _, _ => ⟨S32768x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![4, 4, 33], ![false, false, false]⟩

def k0_off1 (i : grid0.Coords) (c0_i32_96 : BitVec 32) : Fin 2 → Nat :=
  let c8_i32 : BitVec 32 := 8#32
  let arg1 : BitVec 32 := BitVec.ofNat 32 (i 1).val
  let v339 : BitVec 32 := Scalar.muli c8_i32 arg1
  let v340 : BitVec 32 := Scalar.addi v339 c0_i32_96
  let v341 : Index := Scalar.indexCast v340
  let c0_97 : Index := 0#32
  ![v341.toNat, 0]
def k0_off2 (i : grid0.Coords) (c0_i32_96 : BitVec 32) : Fin 2 → Nat :=
  let c32_i32 : BitVec 32 := 32#32
  let c8_i32 : BitVec 32 := 8#32
  let arg1 : BitVec 32 := BitVec.ofNat 32 (i 1).val
  let v339 : BitVec 32 := Scalar.muli c8_i32 arg1
  let v340 : BitVec 32 := Scalar.addi v339 c0_i32_96
  let v344 : BitVec 32 := Scalar.addi c32_i32 v340
  let v345 : Index := Scalar.indexCast v344
  let c0_98 : Index := 0#32
  ![v345.toNat, 0]
def k0_off3 (i : grid0.Coords) (c0_i32_96 : BitVec 32) : Fin 1 → Nat :=
  let c8_i32 : BitVec 32 := 8#32
  let arg1 : BitVec 32 := BitVec.ofNat 32 (i 1).val
  let v339 : BitVec 32 := Scalar.muli c8_i32 arg1
  let v340 : BitVec 32 := Scalar.addi v339 c0_i32_96
  let v348 : Index := Scalar.indexCast v340
  ![v348.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.minsi arg2 c31_i32
  let v2 : BitVec 32 := Scalar.addi v0 v1
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.minsi arg2 c31_i32
  let v2 : BitVec 32 := Scalar.addi v0 v1
  let c4_i32 : BitVec 32 := 4#32
  let v3 : BitVec 32 := Scalar.addi c4_i32 arg1
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.minsi arg2 c31_i32
  let v2 : BitVec 32 := Scalar.addi v0 v1
  let c4_i32 : BitVec 32 := 4#32
  let v3 : BitVec 32 := Scalar.addi c4_i32 arg1
  let c0_i32 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c8_i32 : BitVec 32 := 8#32
  let v4 : BitVec 32 := Scalar.addi c8_i32 arg1
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c31_i32 : BitVec 32 := 31#32
  let v1 : BitVec 32 := Scalar.minsi arg2 c31_i32
  let v2 : BitVec 32 := Scalar.addi v0 v1
  let c0_i32 : BitVec 32 := 0#32
  let c0_i32_0 : BitVec 32 := 0#32
  ![c0_i32.toNat, v2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  ![v3.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S4x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Proof.Ffn.Terms.lean ====
module

public import proofs.«01_k».proof.Proof.Gen.FfnIdeal.Skeleton
public import proofs.«01_k».proof.Proof.Gen.FfnRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The reference's feed-forward product and its residual with the layer normalization, as two functions of arrays,
    and the kernel's payloads read at an index. -/

namespace Cert.FfnRefIdeal.Value
open Cert.FfnRefIdeal Cert.FfnRefIdeal.Gen

/-- The reference's gated feed-forward: the up projection, the gate, the down projection. -/
def ffnOf (X : FVec Ideal S32768x2048 .f32) (Wu : FVec Ideal S4x2x2048x11264 .f32) (Wd : FVec Ideal S4x2x5632x2048 .f32) :
    FVec Ideal S32768x2048 .f32 :=
  Host.dotGeneral dot_S32768x5632_S5632x2048_S32768x2048_1_0_0_1_n_n none (mulf (mulf (extractStridedSlice S32768x5632 ![0, 0] (Host.dotGeneral dot_S32768x2048_S2048x11264_S32768x11264_1_0_0_1_n_n none X (shapeCast _ (extractStridedSlice S1x1x2048x11264 ![3, 1, 0, 0] Wu slices_S4x2x2048x11264_S1x1x2048x11264_3_1_0_0) shapeCasts_S1x1x2048x11264_S2048x11264)) slices_S32768x11264_S32768x5632_0_0) (Host.divf (broadcastInDim S32768x5632 ![] bcast_S_S32768x5632 (constant S_ .f32 0x3F800000#32)) (addf (broadcastInDim S32768x5632 ![] bcast_S_S32768x5632 (constant S_ .f32 0x3F800000#32)) (Host.exp (Host.negf (extractStridedSlice S32768x5632 ![0, 0] (Host.dotGeneral dot_S32768x2048_S2048x11264_S32768x11264_1_0_0_1_n_n none X (shapeCast _ (extractStridedSlice S1x1x2048x11264 ![3, 1, 0, 0] Wu slices_S4x2x2048x11264_S1x1x2048x11264_3_1_0_0) shapeCasts_S1x1x2048x11264_S2048x11264)) slices_S32768x11264_S32768x5632_0_0)))))) (extractStridedSlice S32768x5632 ![0, 5632] (Host.dotGeneral dot_S32768x2048_S2048x11264_S32768x11264_1_0_0_1_n_n none X (shapeCast _ (extractStridedSlice S1x1x2048x11264 ![3, 1, 0, 0] Wu slices_S4x2x2048x11264_S1x1x2048x11264_3_1_0_0) shapeCasts_S1x1x2048x11264_S2048x11264)) slices_S32768x11264_S32768x5632_0_5632)) (shapeCast _ (extractStridedSlice S1x1x5632x2048 ![3, 1, 0, 0] Wd slices_S4x2x5632x2048_S1x1x5632x2048_3_1_0_0) shapeCasts_S1x1x5632x2048_S5632x2048)

/-- The residual sum and its normalization, from the layer's input and the feed-forward's result. -/
def lnOf (X Y : FVec Ideal S32768x2048 .f32) (G B : FVec Ideal S4x3x2048 .f32) : FVec Ideal S32768x2048 .f32 :=
  have Z : FVec Ideal S32768x2048 .f32 := addf (mulf (broadcastInDim S32768x2048 ![] bcast_S_S32768x2048 (constant S_ .f32 0x3FD744FD#32)) X) (mulf (broadcastInDim S32768x2048 ![] bcast_S_S32768x2048 (constant S_ .f32 0x3F000000#32)) Y)
  addf (mulf (mulf (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32))))) (broadcastInDim S32768x2048 ![0, 1] bcast_S32768x1_S32768x2048_0_1 (Host.rsqrt (addf (Host.divf (broadcastInDim S32768x1 ![0] bcast_S32768_S32768x1_0 (Host.reduceAdd (mulf (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32))))) (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32)))))) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 (shapeCast _ (extractStridedSlice S1x1x2048 ![3, 2, 0] G slices_S4x3x2048_S1x1x2048_3_2_0) shapeCasts_S1x1x2048_S2048)))) (broadcastInDim S32768x2048 ![0, 1] bcast_S1x2048_S32768x2048_0_1 (broadcastInDim S1x2048 ![1] bcast_S2048_S1x2048_1 (shapeCast _ (extractStridedSlice S1x1x2048 ![3, 2, 0] B slices_S4x3x2048_S1x1x2048_3_2_0) shapeCasts_S1x1x2048_S2048)))

/-- The reference's result is the normalization of its residual over the feed-forward. -/
theorem res_eq (m : (ℓ : Loc nD τ sig) → Buf (Elt Ideal) ℓ) (c : Dev nD) :
    res_out0 m c = lnOf (m ((c : Thread nD τ).loc main_arg0))
      (ffnOf (m ((c : Thread nD τ).loc main_arg0)) (m ((c : Thread nD τ).loc main_arg1)) (m ((c : Thread nD τ).loc main_arg2)))
      (m ((c : Thread nD τ).loc main_arg3)) (m ((c : Thread nD τ).loc main_arg4)) := rfl

/-- A hidden unit's activation times its gate, at row `r` and hidden unit `k`. -/
def act (X : FVec Ideal S32768x2048 .f32) (Wu : FVec Ideal S4x2x2048x11264 .f32) (r : Fin 32768) (k : Fin 5632) : EReal :=
  ((∑ l : Fin 2048, X (ix2 r l) * Wu (ix4 3 1 l ⟨k.val, by omega⟩)) *
      Ideal.logistic (∑ l : Fin 2048, X (ix2 r l) * Wu (ix4 3 1 l ⟨k.val, by omega⟩))) *
    ∑ l : Fin 2048, X (ix2 r l) * Wu (ix4 3 1 l ⟨5632 + k.val, by omega⟩)

theorem ffnOf_apply (X : FVec Ideal S32768x2048 .f32) (Wu : FVec Ideal S4x2x2048x11264 .f32) (Wd : FVec Ideal S4x2x5632x2048 .f32)
    (i : S32768x2048.Idx) : ffnOf X Wu Wd i = ∑ k : Fin 5632, act X Wu (i 0) k * Wd (ix4 3 1 k (i 1)) := by
  pointwise [ffnOf, act]
  rfl

end Cert.FfnRefIdeal.Value

namespace Cert.FfnIdeal.Value
open Cert.FfnIdeal Cert.FfnIdeal.Gen

theorem pay1_eq (x : Vec Ideal S512x2048 .f32) : k0_pay1 x = x := by
  funext j; pointwise [k0_pay1]

theorem pay2_apply (j : S512x2048.Idx) : k0_pay2 (F := Ideal) j = 0 := by pointwise [k0_pay2]

/-- What one block of 512 hidden units adds to a row. -/
def part (x : Vec Ideal S512x2048 .bf16) (wu wg : Vec Ideal S1x1x2048x512 .bf16) (wd : Vec Ideal S1x1x512x2048 .bf16)
    (j : S512x2048.Idx) : EReal :=
  ∑ k : Fin 512, ((∑ l : Fin 2048, x (ix2 (j 0) l) * wu (ix4 0 0 l k)) *
      Ideal.logistic (∑ l : Fin 2048, x (ix2 (j 0) l) * wu (ix4 0 0 l k)) *
      ∑ l : Fin 2048, x (ix2 (j 0) l) * wg (ix4 0 0 l k)) * wd (ix4 0 0 k (j 1))

theorem pay3_apply (x : Vec Ideal S512x2048 .bf16) (wu wg : Vec Ideal S1x1x2048x512 .bf16) (acc : Vec Ideal S512x2048 .f32)
    (wd : Vec Ideal S1x1x512x2048 .bf16) (j : S512x2048.Idx) : k0_pay3 x wu wg acc wd j = acc j + part x wu wg wd j := by
  pointwise [k0_pay3, part]

end Cert.FfnIdeal.Value

end
-- ==== Proof.Ffn.Final.lean ====
module

public import proofs.«01_k».proof.Proof.Gen.FfnIdeal.Value
public import proofs.«01_k».proof.Proof.Gen.FfnRefIdeal.Run
public import proofs.«01_k».proof.Proof.Ffn.Terms
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The kernel's carried accumulator is the reference's feed-forward, block of hidden units by block, and what it writes
    back is the reference's normalized residual. -/

namespace Cert.FfnIdeal.Value
open Cert.FfnIdeal Cert.FfnIdeal.Gen
open Cert.FfnRefIdeal.Value (ffnOf lnOf act ffnOf_apply)

variable (m : (ℓ : Loc nD τ sig) → Buf (Elt Ideal) ℓ)

/-- The windows' block indices at every point of the grid. -/
theorem places : ∀ t : Fin cfg0.N, win0_0.index t = ![t.val / 11, 0] ∧ win0_1.index t = ![3, 1, 0, t.val % 11]
    ∧ win0_2.index t = ![3, 1, 0, 11 + t.val % 11] ∧ win0_3.index t = ![3, 1, t.val % 11, 0]
    ∧ win0_4.index t = ![0, 0] ∧ win0_5.index t = ![0, 0] ∧ win0_6.index t = ![t.val / 11, 0] ∧ t.val / 11 < 64 :=
  (by decide +kernel : ∀ t : Fin grid0.N, _)

theorem xblk_step (c : Dev nD) (t s : Fin cfg0.N) (h : t.val / 11 = s.val / 11) : iblk m c 0 t = iblk m c 0 s := by
  funext y
  blk_ext [iblk, V, places t, places s]

/-- The carried copy of the rows is the point's block of the input. -/
theorem rows_kept (c : Dev nD) : ∀ t : Fin cfg0.N, (outsAt0 m c t.val t.isLt).2.1 = (show Vec Ideal S512x2048 .f32 from iblk m c 0 t) := by
  rintro ⟨n, hn⟩
  induction n with
  | zero =>
    rw [outsAt0_A m c ⟨0, hn⟩ (Nat.zero_mod _) (by dsimp only; omega)]
    frame_out
    rw [pay1_eq]
  | succ n ih =>
    by_cases h0 : (n + 1) % 11 = 0
    · rw [outsAt0_A m c ⟨n + 1, hn⟩ h0 (by dsimp only; omega)]
      frame_out
      rw [pay1_eq]
    · have e : iblk m c 0 ⟨n, by omega⟩ = iblk m c 0 ⟨n + 1, hn⟩ := xblk_step m c _ _ (by dsimp only; omega)
      by_cases h1 : (n + 1) % 11 = 10
      · rw [outsAt0_C m c ⟨n + 1, hn⟩ h0 h1]
        frame_out
        exact (ih _).trans e
      · rw [outsAt0_B m c ⟨n + 1, hn⟩ h0 h1]
        frame_out
        exact (ih _).trans e

/-- What point `t` adds to the accumulator. -/
def added (c : Dev nD) (t : Fin cfg0.N) (j : S512x2048.Idx) : EReal :=
  part (show Vec Ideal S512x2048 .f32 from iblk m c 0 t) (iblk m c 1 t) (iblk m c 2 t) (iblk m c 3 t) j

theorem acc_reset (c : Dev nD) (t : Fin cfg0.N) (h : t.val % 11 = 0) (j : S512x2048.Idx) :
    (outsAt0 m c t.val t.isLt).2.2 j = 0 + added m c t j := by
  rw [outsAt0_A m c t h (by omega)]
  frame_out
  rw [pay3_apply, pay1_eq, pay2_apply]
  rfl

theorem acc_step (c : Dev nD) (t : Fin cfg0.N) (h : ¬t.val % 11 = 0) (j : S512x2048.Idx) :
    (outsAt0 m c t.val t.isLt).2.2 j
      = (outsAt0 m c (t.val - 1) (Nat.lt_of_le_of_lt (Nat.sub_le _ _) t.isLt)).2.2 j + added m c t j := by
  have e := (rows_kept m c ⟨t.val - 1, Nat.lt_of_le_of_lt (Nat.sub_le _ _) t.isLt⟩).trans
    (xblk_step m c _ t (by dsimp only; omega))
  dsimp only at e
  by_cases h1 : t.val % 11 = 10
  · rw [outsAt0_C m c t h h1]
    frame_out
    rw [pay3_apply, e]
    rw [read_unread_whole, read_unread_whole]
    rfl
  · rw [outsAt0_B m c t h h1]
    frame_out
    rw [pay3_apply, e]
    rw [read_unread_whole, read_unread_whole]
    rfl

/-- After the last block of hidden units the accumulator is the reference's feed-forward at the rows of the block. -/
theorem acc_last (c : Dev nD) (t : Fin cfg0.N) (h : t.val % 11 = 10) (j : S512x2048.Idx) (i : S32768x2048.Idx)
    (hi0 : (i 0 : ℕ) = t.val / 11 * 512 + j 0) (hi1 : (i 1 : ℕ) = j 1) :
    (outsAt0 m c t.val t.isLt).2.2 j = ffnOf (m ((c : Thread nD τ).loc main_arg0)) (m ((c : Thread nD τ).loc main_arg1))
      (m ((c : Thread nD τ).loc main_arg2)) i := by
  rw [Pipeline.eq_sum_fin_of_reset_step_apply_of_flush (fun n h => (outsAt0 m c n h).2.2) 11 (fun _ => 0) (added m c)
    (acc_reset m c) (acc_step m c) t h j, zero_add, ffnOf_apply]
  simp only [added, part]
  refine Fin.sum_mul_add_congr fun s k hl => ?_
  unfold act
  have hp := places ⟨_, Pipeline.run_point_lt_of_flush t h s⟩
  blk_point [iblk, V, hp]

theorem out_last (c : Dev nD) (t : Fin cfg0.N) (h : t.val % 11 = 10) :
    (outsAt0 m c t.val t.isLt).1 = k0_pay4 (iblk m c 0 t) ((outsAt0 m c t.val t.isLt).2.2) (iblk m c 4 t) (iblk m c 5 t) := by
  rw [outsAt0_C m c t (by omega) h]
  frame_out

theorem point (c : Dev nD) (t : Fin cfg0.N) (h : t.val % 11 = 10) (y : S512x2048.Idx) (i : S32768x2048.Idx)
    (hi0 : (i 0 : ℕ) = t.val / 11 * 512 + y 0) (hi1 : (i 1 : ℕ) = y 1) (acc : Vec Ideal S512x2048 .f32)
    (Y : FVec Ideal S32768x2048 .f32) (hacc : ∀ k : Fin 2048, acc (ix2 (y 0) k) = Y (ix2 (i 0) k)) :
    k0_pay4 (iblk m c 0 t) acc (iblk m c 4 t) (iblk m c 5 t) y
      = lnOf (m ((c : Thread nD τ).loc main_arg0)) Y (m ((c : Thread nD τ).loc main_arg3)) (m ((c : Thread nD τ).loc main_arg4)) i := by
  have hy : acc y = Y i := by
    have e1 : y = ix2 (y 0) (y 1) := by blk_ext
    have e2 : i = ix2 (i 0) (y 1) := by blk_ext
    rw [e1, e2]; exact hacc _
  pointwise [k0_pay4, lnOf]
  simp only [hacc, hy]
  have hp := places t
  blk_point [iblk, V, hp]

/-- The result array after the run. -/
theorem final (c : Dev nD) : (dats m 0 c).arrAt 6 (cfgs 0).N
    = lnOf (m ((c : Thread nD τ).loc main_arg0)) (ffnOf (m ((c : Thread nD τ).loc main_arg0)) (m ((c : Thread nD τ).loc main_arg1))
      (m ((c : Thread nD τ).loc main_arg2))) (m ((c : Thread nD τ).loc main_arg3)) (m ((c : Thread nD τ).loc main_arg4)) := by
  refine (dats m 0 c).arrAt_eq_of_covers 6 _ (by decide +kernel) fun t hf y => ?_
  have h := (flush0_6 t).mp hf
  have hp := places t
  blk_simp
  rw [after0_6, out_last m c t h]
  refine point m c t h y _ ?_ ?_ _ _ fun k => acc_last m c t h _ _ ?_ ?_
  all_goals (blk_simp [hp] <;> try omega)

end Cert.FfnIdeal.Value

end
-- ==== Proof.Out.GdnOut.lean ====
module

public import proofs.«01_k».proof.Proof.Gen.GdnOutIdeal.Value
public import proofs.«01_k».proof.Proof.Gen.GdnOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The output projection with its residual and layer normalization: a block of rows is the reference at those rows. -/

namespace Cert.GdnOutRefIdeal.Value
open Cert.GdnOutRefIdeal Cert.GdnOutRefIdeal.Gen

/-- The reference's output projection. -/
def mixOf (A : FVec Ideal S32768x4096 .bf16) (W : FVec Ideal S2x4096x2048 .f32) : FVec Ideal S32768x2048 .f32 :=
  Host.dotGeneral dot_S32768x4096_S4096x2048_S32768x2048_1_0_0_1_n_n none (extf .f32 A bitsLt_bf16_f32) (shapeCast _ (extractStridedSlice S1x4096x2048 ![0, 0, 0] W slices_S2x4096x2048_S1x4096x2048_0_0_0) shapeCasts_S1x4096x2048_S4096x2048)

/-- The residual sum and its normalization. -/
def lnOf (X Y : FVec Ideal S32768x2048 .f32) (G B : FVec Ideal S4x3x2048 .f32) : FVec Ideal S32768x2048 .f32 :=
  have Z : FVec Ideal S32768x2048 .f32 := addf (mulf (broadcastInDim S32768x2048 ![] bcast_S_S32768x2048 (constant S_ .f32 0x3FD744FD#32)) X) Y
  addf (mulf (mulf (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32))))) (broadcastInDim S32768x2048 ![0, 1] bcast_S32768x1_S32768x2048_0_1 (Host.rsqrt (addf (Host.divf (broadcastInDim S32768x1 ![0] bcast_S32768_S32768x1_0 (Host.reduceAdd (mulf (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32))))) (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32)))))) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 (shapeCast _ (extractStridedSlice S1x1x2048 ![0, 1, 0] G slices_S4x3x2048_S1x1x2048_0_1_0) shapeCasts_S1x1x2048_S2048)))) (broadcastInDim S32768x2048 ![0, 1] bcast_S1x2048_S32768x2048_0_1 (broadcastInDim S1x2048 ![1] bcast_S2048_S1x2048_1 (shapeCast _ (extractStridedSlice S1x1x2048 ![0, 1, 0] B slices_S4x3x2048_S1x1x2048_0_1_0) shapeCasts_S1x1x2048_S2048)))

/-- The reference's result. -/
theorem res_eq (m : (ℓ : Loc nD τ sig) → Buf (Elt Ideal) ℓ) (c : Dev nD) :
    res_out0 m c = lnOf (m ((c : Thread nD τ).loc main_arg2))
      (mixOf (m ((c : Thread nD τ).loc main_arg0)) (m ((c : Thread nD τ).loc main_arg1)))
      (m ((c : Thread nD τ).loc main_arg3)) (m ((c : Thread nD τ).loc main_arg4)) := rfl

end Cert.GdnOutRefIdeal.Value

namespace Cert.GdnOutIdeal.Value
open Cert.GdnOutIdeal Cert.GdnOutIdeal.Gen
open Cert.GdnOutRefIdeal.Value (mixOf lnOf)

variable (m : (ℓ : Loc nD τ sig) → Buf (Elt Ideal) ℓ)

/-- The windows' block indices at every point of the grid. -/
theorem places : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ t.val < 64 :=
  (by decide +kernel : ∀ t : Fin grid0.N, _)

/-- What a point writes is the reference at the rows of its block. -/
theorem point (c : Dev nD) (t : Fin cfg0.N) (y : S512x2048.Idx) (i : S32768x2048.Idx)
    (hi0 : (i 0 : ℕ) = t.val * 512 + y 0) (hi1 : (i 1 : ℕ) = y 1) :
    k0_pay1 (iblk m c 2 t) (iblk m c 0 t) (iblk m c 1 t) (iblk m c 3 t) (iblk m c 4 t) y
      = lnOf (m ((c : Thread nD τ).loc main_arg2)) (mixOf (m ((c : Thread nD τ).loc main_arg0)) (m ((c : Thread nD τ).loc main_arg1)))
          (m ((c : Thread nD τ).loc main_arg3)) (m ((c : Thread nD τ).loc main_arg4)) i := by
  pointwise [k0_pay1, lnOf, mixOf]
  have hp := places t
  blk_point [iblk, V, hp]

/-- The result array after the run. -/
theorem final (c : Dev nD) : (dats m 0 c).arrAt 5 (cfgs 0).N
    = lnOf (m ((c : Thread nD τ).loc main_arg2)) (mixOf (m ((c : Thread nD τ).loc main_arg0)) (m ((c : Thread nD τ).loc main_arg1)))
        (m ((c : Thread nD τ).loc main_arg3)) (m ((c : Thread nD τ).loc main_arg4)) := by
  refine (dats m 0 c).arrAt_eq_of_covers 5 _ (by decide +kernel) fun t hf y => ?_
  have hp := places t
  blk_simp
  rw [after0_5]
  frame_out
  refine point m c t y _ ?_ ?_
  all_goals (blk_simp [hp] <;> try omega)

end Cert.GdnOutIdeal.Value

end
-- ==== Proof.Run.GlaIdeal.lean ====
module

public import proofs.«01_k».proof.Proof.Gen.GlaIdeal.Frame
public import proofs.«01_k».proof.Proof.Gen.GlaIdeal.Skeleton
public import proofs.«01_k».proof.Proof.Gen.GlaIdeal.Loops
public import Idealize.ShloMosaic.Lib.Pipeline.FrameBody
public import Idealize.ShloMosaic.Lib.Claim
public import Idealize.ShloMosaic.Lib.Tactic

@[expose] public section

set_option maxRecDepth 16384

noncomputable section

/-! The run of the gated linear attention. Nothing is said of the block a point writes nor of the state it carries:
the point may find and leave the state and the other two scratch buffers holding anything. The blocks it reads stay. -/

namespace Cert.GlaIdeal.Run

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- Whether a point begins a sequence. -/
abbrev begins (i : grid0.Coords) : BitVec 1 :=
  Scalar.cmpi .ne (Scalar.extui (Scalar.cmpi .eq (BitVec.ofNat 32 (i 1).val) 0#32) : BitVec 32) 0#32

set_option maxHeartbeats 4000000 in
/-- The body keeps the blocks it reads. -/
theorem body_keeps
    (c : Dev nD) (E : Set ℕ) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x2048 .f32) (harg4 : arg4.IsWhole) (arg5 : Memref sig .tc .vmem S512x2048 .f32) (harg5 : arg5.IsWhole)
    (arg6 : Memref sig .tc .vmem S512x128 .f32) (harg6 : arg6.IsWhole) (arg7 : Memref sig .tc .vmem S128x1024 .f32) (harg7 : arg7.IsWhole)
    (arg8 : Memref sig .tc .vmem S1x1024 .f32) (harg8 : arg8.IsWhole) (arg9 : Memref sig .tc .vmem S1x512 .f32) (harg9 : arg9.IsWhole)
    (arg10 : Memref sig .tc .vmem S512x2048 .bf16) (harg10 : arg10.IsWhole) (arg11 : Memref sig .tc .vmem S4x512x256 .f32) (harg11 : arg11.IsWhole)
    (arg12 : Memref sig .tc .vmem S512x1024 .f32) (harg12 : arg12.IsWhole) (arg13 : Memref sig .tc .vmem S64x1024 .f32) (harg13 : arg13.IsWhole)
    (x0 : Vec F S512x1024 .f32) (x1 : Vec F S512x1024 .f32) (x2 : Vec F S512x2048 .f32) (x3 : Vec F S512x2048 .f32)
    (x4 : Vec F S512x128 .f32) (x5 : Vec F S128x1024 .f32) (x6 : Vec F S1x1024 .f32) (x7 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d)) -∗ K ⟨⟩))
      ⊢ wp frame (wpE (defs₀ (F := F)) Variants.none c none) E
          (cc0_gla_chunk i arg2 harg2 arg3 harg3 arg4 harg4 arg5 harg5 arg6 harg6 arg7 harg7 arg8 harg8 arg9 harg9 arg10 harg10 arg11 harg11
            arg12 harg12 arg13 harg13) K := by
  simp only [cc0_gla_chunk_eq_skeleton]; unfold cc0_gla_chunk_skel
  simp only [k0_part191_eq_skeleton]; unfold k0_part191_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  by_cases hc : begins i = 1#1
  all_goals
    sl_exec (disch := first | sl_exact hc)
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]; · iexists _; iexists _; isplitr; swap; · iexact H8
                    ipureintro; rfl
    isplitl [H9]; · iexists _; iexists _; isplitr; swap; · iexact H9
                    ipureintro; rfl
    isplitl [H10]; · iexists _; iexists _; isplitr; swap; · iexact H10
                     ipureintro; rfl
    iexists _; iexists _; isplitr; swap; · iexact H11
    ipureintro; rfl

/-! ## The contents point by point -/

/-- The block written is not named. -/
def unnamed (w : Fin cfg0.W) : Bool := w == 8

/-- The arrays at the start and, of each buffer read, its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Dat.unnamed ⟨8, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

/-- The scratch buffers at anything, and the generator register. -/
theorem scratch_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]
  simp only [owns_whole]
  try rfl

/-! ## Every point -/

/-- What a point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d))

theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c), before0_5_of m (dats m 0 c) (A_eq m c 5) (after_5 m c),
    before0_6_of m (dats m 0 c) (A_eq m c 6) (after_6 m c), before0_7_of m (dats m 0 c) (A_eq m c 7) (after_7 m c)]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, scratch_eq,
    after_0, after_1, after_2, after_3, after_4, after_5, after_6, after_7]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (body_keeps c Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, H8, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) :
    defs₀ (F := F) .tc cfg0.body (cfg0.bodyArgs t (cfg0.slots t)) = bodyAt0 t := by
  unfold defs₀; rw [Defs.onTc_tc]

theorem body_all (c : Dev nD) : BodyObligation (dats (F := F) m 0 c) (defs₀ (F := F)) Variants.none () Set.univ unnamed := fun t => by
  rw [bigSep_W0, bigSep_W0, body_row]
  exact triple_restated (body_point m c t) rfl .rfl fun _ => .rfl

/-! ## The run -/

set_option backward.isDefEq.respectTransparency.types false in
set_option maxHeartbeats 800000 in
/-- The program runs to the end, with every counter at zero. -/
theorem run_quiet : θ_run defs (onTc (τ := τ) (main (F := F))) (s₀ m ρ)
    (fun r => Pipeline.RDat.FramePost (cfgs 0) (fun c => (dats m 0 c).toRForget unnamed) (V m) r ∧ r.2.sem = fun _ => 0) :=
  Pipeline.θ_run_frame_forget_shared (Q' := _) cfgs (dats m) (0 : Fin 1) launch₀0 defs₀ Variants.none unnamed m ρ main
    (hbody := fun c => (body_all m c).loose) (hq := fun _ _ _ => rfl)
    (howed := fun _ _ => rfl) (V := V m) (hmain := hmain m Variants.none) (hA := A_eq m) (hΦ := fun _ _ => rfl)

/-- The arguments end as they were. -/
theorem kept_args (r : PUnit × MemSt nD τ sig (Elt F))
    (h : Pipeline.RDat.FramePost (cfgs 0) (fun c => (dats m 0 c).toRForget unnamed) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h.arr_in c 3 rfl).trans ((A_eq m c 3).trans (V_main_arg0 m c)),
    (h.arr_in c 4 rfl).trans ((A_eq m c 4).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept_args m r h.1, h.2⟩) (run_quiet m ρ)

end Cert.GlaIdeal.Run

end
-- ==== Proof.Out.GlaOut.lean ====
module

public import proofs.«01_k».proof.Proof.Gen.GlaOutIdeal.Value
public import proofs.«01_k».proof.Proof.Gen.GlaOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The output projection with its residual and layer normalization: a block of rows is the reference at those rows. -/

namespace Cert.GlaOutRefIdeal.Value
open Cert.GlaOutRefIdeal Cert.GlaOutRefIdeal.Gen

/-- The reference's output projection. -/
def mixOf (A : FVec Ideal S32768x2048 .bf16) (W : FVec Ideal S1x2048x2048 .f32) : FVec Ideal S32768x2048 .f32 :=
  Host.dotGeneral dot_S32768x2048_S2048x2048_S32768x2048_1_0_0_1_n_n none (extf .f32 A bitsLt_bf16_f32) (shapeCast _ W shapeCasts_S1x2048x2048_S2048x2048)

/-- The residual sum and its normalization. -/
def lnOf (X Y : FVec Ideal S32768x2048 .f32) (G B : FVec Ideal S4x3x2048 .f32) : FVec Ideal S32768x2048 .f32 :=
  have Z : FVec Ideal S32768x2048 .f32 := addf (mulf (broadcastInDim S32768x2048 ![] bcast_S_S32768x2048 (constant S_ .f32 0x3FD744FD#32)) X) Y
  addf (mulf (mulf (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32))))) (broadcastInDim S32768x2048 ![0, 1] bcast_S32768x1_S32768x2048_0_1 (Host.rsqrt (addf (Host.divf (broadcastInDim S32768x1 ![0] bcast_S32768_S32768x1_0 (Host.reduceAdd (mulf (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32))))) (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32)))))) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 (shapeCast _ (extractStridedSlice S1x1x2048 ![1, 1, 0] G slices_S4x3x2048_S1x1x2048_1_1_0) shapeCasts_S1x1x2048_S2048)))) (broadcastInDim S32768x2048 ![0, 1] bcast_S1x2048_S32768x2048_0_1 (broadcastInDim S1x2048 ![1] bcast_S2048_S1x2048_1 (shapeCast _ (extractStridedSlice S1x1x2048 ![1, 1, 0] B slices_S4x3x2048_S1x1x2048_1_1_0) shapeCasts_S1x1x2048_S2048)))

/-- The reference's result. -/
theorem res_eq (m : (ℓ : Loc nD τ sig) → Buf (Elt Ideal) ℓ) (c : Dev nD) :
    res_out0 m c = lnOf (m ((c : Thread nD τ).loc main_arg2))
      (mixOf (m ((c : Thread nD τ).loc main_arg0)) (m ((c : Thread nD τ).loc main_arg1)))
      (m ((c : Thread nD τ).loc main_arg3)) (m ((c : Thread nD τ).loc main_arg4)) := rfl

end Cert.GlaOutRefIdeal.Value

namespace Cert.GlaOutIdeal.Value
open Cert.GlaOutIdeal Cert.GlaOutIdeal.Gen
open Cert.GlaOutRefIdeal.Value (mixOf lnOf)

variable (m : (ℓ : Loc nD τ sig) → Buf (Elt Ideal) ℓ)

/-- The windows' block indices at every point of the grid. -/
theorem places : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ t.val < 64 :=
  (by decide +kernel : ∀ t : Fin grid0.N, _)

/-- What a point writes is the reference at the rows of its block. -/
theorem point (c : Dev nD) (t : Fin cfg0.N) (y : S512x2048.Idx) (i : S32768x2048.Idx)
    (hi0 : (i 0 : ℕ) = t.val * 512 + y 0) (hi1 : (i 1 : ℕ) = y 1) :
    k0_pay1 (iblk m c 2 t) (iblk m c 0 t) (iblk m c 1 t) (iblk m c 3 t) (iblk m c 4 t) y
      = lnOf (m ((c : Thread nD τ).loc main_arg2)) (mixOf (m ((c : Thread nD τ).loc main_arg0)) (m ((c : Thread nD τ).loc main_arg1)))
          (m ((c : Thread nD τ).loc main_arg3)) (m ((c : Thread nD τ).loc main_arg4)) i := by
  pointwise [k0_pay1, lnOf, mixOf]
  have hp := places t
  blk_point [iblk, V, hp]

/-- The result array after the run. -/
theorem final (c : Dev nD) : (dats m 0 c).arrAt 5 (cfgs 0).N
    = lnOf (m ((c : Thread nD τ).loc main_arg2)) (mixOf (m ((c : Thread nD τ).loc main_arg0)) (m ((c : Thread nD τ).loc main_arg1)))
        (m ((c : Thread nD τ).loc main_arg3)) (m ((c : Thread nD τ).loc main_arg4)) := by
  refine (dats m 0 c).arrAt_eq_of_covers 5 _ (by decide +kernel) fun t hf y => ?_
  have hp := places t
  blk_simp
  rw [after0_5]
  frame_out
  refine point m c t y _ ?_ ?_
  all_goals (blk_simp [hp] <;> try omega)

end Cert.GlaOutIdeal.Value

end
-- ==== Proof.Out.Glu.lean ====
module

public import proofs.«01_k».proof.Proof.Gen.GluIdeal.Value
public import proofs.«01_k».proof.Proof.Gen.GluRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The gated linear unit with its residual and layer normalization: a block of rows is the reference at those rows. -/

namespace Cert.GluRefIdeal.Value
open Cert.GluRefIdeal Cert.GluRefIdeal.Gen

/-- The reference's gated linear unit. -/
def mixOf (A : FVec Ideal S32768x2048 .bf16) (W : FVec Ideal S1x2048x4096 .f32) : FVec Ideal S32768x2048 .f32 :=
  mulf (extractStridedSlice S32768x2048 ![0, 0] (Host.dotGeneral dot_S32768x2048_S2048x4096_S32768x4096_1_0_0_1_n_n none (extf .f32 A bitsLt_bf16_f32) (shapeCast _ W shapeCasts_S1x2048x4096_S2048x4096)) slices_S32768x4096_S32768x2048_0_0) (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 2048] (Host.dotGeneral dot_S32768x2048_S2048x4096_S32768x4096_1_0_0_1_n_n none (extf .f32 A bitsLt_bf16_f32) (shapeCast _ W shapeCasts_S1x2048x4096_S2048x4096)) slices_S32768x4096_S32768x2048_0_2048)))))

/-- The residual sum and its normalization. -/
def lnOf (X Y : FVec Ideal S32768x2048 .f32) (G B : FVec Ideal S4x3x2048 .f32) : FVec Ideal S32768x2048 .f32 :=
  have Z : FVec Ideal S32768x2048 .f32 := addf (mulf (broadcastInDim S32768x2048 ![] bcast_S_S32768x2048 (constant S_ .f32 0x3FD744FD#32)) X) Y
  addf (mulf (mulf (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32))))) (broadcastInDim S32768x2048 ![0, 1] bcast_S32768x1_S32768x2048_0_1 (Host.rsqrt (addf (Host.divf (broadcastInDim S32768x1 ![0] bcast_S32768_S32768x1_0 (Host.reduceAdd (mulf (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32))))) (subf Z (broadcastInDim S32768x2048 ![0, 1] bcast_S32768x1_S32768x2048_0_1 (Host.divf (broadcastInDim S32768x1 ![0] bcast_S32768_S32768x1_0 (Host.reduceAdd Z (constant S_ .f32 0x00000000#32) reducesTo_S32768x2048_S32768_d1 h_S_)) (broadcastInDim S32768x1 ![] bcast_S_S32768x1 (constant S_ .f32 0x45000000#32)))))) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x3727C5AC#32)))))) (broadcastInDim S32768x2048 ![0, 1] bcast_S1x2048_S32768x2048_0_1 (broadcastInDim S1x2048 ![1] bcast_S2048_S1x2048_1 (shapeCast _ (extractStridedSlice S1x1x2048 ![2, 1, 0] G slices_S4x3x2048_S1x1x2048_2_1_0) shapeCasts_S1x1x2048_S2048)))) (broadcastInDim S32768x2048 ![0, 1] bcast_S1x2048_S32768x2048_0_1 (broadcastInDim S1x2048 ![1] bcast_S2048_S1x2048_1 (shapeCast _ (extractStridedSlice S1x1x2048 ![2, 1, 0] B slices_S4x3x2048_S1x1x2048_2_1_0) shapeCasts_S1x1x2048_S2048)))

/-- The reference's result. -/
theorem res_eq (m : (ℓ : Loc nD τ sig) → Buf (Elt Ideal) ℓ) (c : Dev nD) :
    res_out0 m c = lnOf (m ((c : Thread nD τ).loc main_arg2))
      (mixOf (m ((c : Thread nD τ).loc main_arg0)) (m ((c : Thread nD τ).loc main_arg1)))
      (m ((c : Thread nD τ).loc main_arg3)) (m ((c : Thread nD τ).loc main_arg4)) := rfl

end Cert.GluRefIdeal.Value

namespace Cert.GluIdeal.Value
open Cert.GluIdeal Cert.GluIdeal.Gen
open Cert.GluRefIdeal.Value (mixOf lnOf)

variable (m : (ℓ : Loc nD τ sig) → Buf (Elt Ideal) ℓ)

/-- The windows' block indices at every point of the grid. -/
theorem places : ∀ t : Fin cfg0.N, win0_0.index t = ![t.val, 0] ∧ win0_1.index t = ![0, 0] ∧ win0_2.index t = ![0, 1] ∧ win0_3.index t = ![t.val, 0]
    ∧ win0_4.index t = ![0, 0] ∧ win0_5.index t = ![0, 0] ∧ win0_6.index t = ![t.val, 0] ∧ t.val < 64 :=
  (by decide +kernel : ∀ t : Fin grid0.N, _)

/-- The logistic function spelled out. -/
theorem logistic_eq (x : EReal) : Ideal.div 1 (1 + Ideal.exp (-x)) = Ideal.logistic x := rfl

/-- What a point writes is the reference at the rows of its block. -/
theorem point (c : Dev nD) (t : Fin cfg0.N) (y : S512x2048.Idx) (i : S32768x2048.Idx)
    (hi0 : (i 0 : ℕ) = t.val * 512 + y 0) (hi1 : (i 1 : ℕ) = y 1) :
    k0_pay1 (iblk m c 0 t) (iblk m c 1 t) (iblk m c 2 t) (iblk m c 3 t) (iblk m c 4 t) (iblk m c 5 t) y
      = lnOf (m ((c : Thread nD τ).loc main_arg2)) (mixOf (m ((c : Thread nD τ).loc main_arg0)) (m ((c : Thread nD τ).loc main_arg1)))
          (m ((c : Thread nD τ).loc main_arg3)) (m ((c : Thread nD τ).loc main_arg4)) i := by
  pointwise [k0_pay1, lnOf, mixOf]
  simp only [logistic_eq]
  have hp := places t
  blk_point [iblk, V, hp]

/-- The result array after the run. -/
theorem final (c : Dev nD) : (dats m 0 c).arrAt 6 (cfgs 0).N
    = lnOf (m ((c : Thread nD τ).loc main_arg2)) (mixOf (m ((c : Thread nD τ).loc main_arg0)) (m ((c : Thread nD τ).loc main_arg1)))
        (m ((c : Thread nD τ).loc main_arg3)) (m ((c : Thread nD τ).loc main_arg4)) := by
  refine (dats m 0 c).arrAt_eq_of_covers 6 _ (by decide +kernel) fun t hf y => ?_
  have hp := places t
  blk_simp
  rw [after0_6]
  frame_out
  refine point m c t y _ ?_ ?_
  all_goals (blk_simp [hp] <;> try omega)

end Cert.GluIdeal.Value

end
-- ==== Proof.Scan.Steps.lean ====
module

public import proofs.«01_k».proof.Proof.Gen.ScanIdeal.Value
public import Idealize.ShloMosaic.Lib.Pipeline.ValueKit

@[expose] public section
noncomputable section
open Idealize.ShloMosaic Idealize.ShloMosaic.TcCoe Idealize.SL.Sem
namespace Cert.ScanIdeal.Value
open Cert.ScanIdeal Cert.ScanIdeal.Gen

/-- Eight rows of one lane tile: two time steps of four batch entries. -/
abbrev Rows : Type := FVec Ideal S8x1024 .f32

theorem slices_re (k : ℕ) : S128x2048.Slices ![8 * (k % 16), 0] S8x1024 := by
  refine ⟨rfl, fun a => ?_⟩
  have := Nat.mod_lt k (show 0 < 16 by decide)
  fin_cases a
  · show 8 * (k % 16) + 8 ≤ 128; omega
  · show 0 + 1024 ≤ 2048; omega

theorem slices_im (k : ℕ) : S128x2048.Slices ![8 * (k % 16), 1024] S8x1024 := by
  refine ⟨rfl, fun a => ?_⟩
  have := Nat.mod_lt k (show 0 < 16 by decide)
  fin_cases a
  · show 8 * (k % 16) + 8 ≤ 128; omega
  · show 1024 + 1024 ≤ 2048; omega

/-- The real input part of step pair `k` of a sub-block. -/
def xR (U : FVec Ideal S128x2048 .f32) (k : ℕ) : Rows :=
  extractStridedSlice S8x1024 ![8 * (k % 16), 0] U (slices_re k)

/-- The imaginary input part of step pair `k` of a sub-block. -/
def xI (U : FVec Ideal S128x2048 .f32) (k : ℕ) : Rows :=
  extractStridedSlice S8x1024 ![8 * (k % 16), 1024] U (slices_im k)

/-- Rows moved on by one time step. -/
def rot (x : Rows) : Rows := dynamicRotate 0 4#32 none x rotates_S8x1024_d0

/-- The later step's rows of a pair, copied over both halves. -/
def last (x : Rows) : Rows := select k0_pay8 x (rot x)

/-- The real state after step pair `k`, from the carried state `p`. -/
def hR (A B C D : Rows) (U : FVec Ideal S128x2048 .f32) (p : Rows × Rows) (k : ℕ) : Rows :=
  addf (addf (xR U k) (subf (mulf C (rot (xR U k))) (mulf D (rot (xI U k))))) (subf (mulf A p.1) (mulf B p.2))

/-- The imaginary state after step pair `k`, from the carried state `p`. -/
def hI (A B C D : Rows) (U : FVec Ideal S128x2048 .f32) (p : Rows × Rows) (k : ℕ) : Rows :=
  addf (addf (xI U k) (addf (mulf C (rot (xI U k))) (mulf D (rot (xR U k))))) (addf (mulf A p.2) (mulf B p.1))

/-- The carried state after `k` step pairs of a sub-block. -/
def carry (A B C D : Rows) (U : FVec Ideal S128x2048 .f32) (p : Rows × Rows) : ℕ → Rows × Rows
  | 0 => p
  | k + 1 => (last (hR A B C D U (carry A B C D U p k) k), last (hI A B C D U (carry A B C D U p k) k))

/-- The rows of a sub-block, pair after pair. -/
def rowsOf (h : ℕ → Rows) : FVec Ideal S128x1024 .f32 :=
  concatenate S128x1024 0 [⟨S8x1024, h 0⟩, ⟨S8x1024, h 1⟩, ⟨S8x1024, h 2⟩, ⟨S8x1024, h 3⟩, ⟨S8x1024, h 4⟩, ⟨S8x1024, h 5⟩, ⟨S8x1024, h 6⟩, ⟨S8x1024, h 7⟩, ⟨S8x1024, h 8⟩, ⟨S8x1024, h 9⟩, ⟨S8x1024, h 10⟩, ⟨S8x1024, h 11⟩, ⟨S8x1024, h 12⟩, ⟨S8x1024, h 13⟩, ⟨S8x1024, h 14⟩, ⟨S8x1024, h 15⟩]
    concatenates_S8x1024_S8x1024_S8x1024_S8x1024_S8x1024_S8x1024_S8x1024_S8x1024_S8x1024_S8x1024_S8x1024_S8x1024_S8x1024_S8x1024_S8x1024_S8x1024_S128x1024_d0

/-- A sub-block's output before the activation function. -/
def yPre (h h' : ℕ → Rows) (u : Vec Ideal S128x256 .f32) (cm : Vec Ideal S1x2048x256 .bf16) (d : Vec Ideal S1x256 .f32) :
    FVec Ideal S128x256 .f32 :=
  addf (matmul dot_S128x2048_S2048x256_S128x256_1_0_0_1_n_n none
      (truncf .bf16 (concatenate S128x2048 1 [⟨S128x1024, rowsOf h⟩, ⟨S128x1024, rowsOf h'⟩]
        concatenates_S128x1024_S128x1024_S128x2048_d1 : FVec Ideal S128x2048 .f32) bitsLt_bf16_f32)
      (shapeCast S2048x256 cm shapeCasts_S1x2048x256_S2048x256 : FVec Ideal S2048x256 .bf16)
      (constant S128x256 .f32 0x00000000#32))
    (mulf (broadcastTo S128x256 (shapeCast S1x256 d shapeCasts_S1x256_S1x256 : FVec Ideal S1x256 .f32) broadcasts_S1x256_S128x256) u)

/-- The activation function, element by element. -/
def act (y : FVec Ideal S128x256 .f32) : FVec Ideal S128x256 .bf16 :=
  truncf .bf16 (mulf y (mulf (broadcast S128x256 (Scalar.ofBits .f32 0x3F000000#32 : Ideal .f32)) (addf (broadcast S128x256 (Scalar.ofBits .f32 0x3F800000#32 : Ideal .f32))
    (tanh (mulf (broadcast S128x256 (Scalar.ofBits .f32 0x3F4C422A#32 : Ideal .f32)) (addf y (mulf (broadcast S128x256 (Scalar.ofBits .f32 0x3D372713#32 : Ideal .f32)) (mulf y (mulf y y))))))))) bitsLt_bf16_f32

end Cert.ScanIdeal.Value
end
-- ==== Proof.Scan.Point.lean ====
module

public import proofs.«01_k».proof.Proof.Gen.ScanIdeal.Value
public import proofs.«01_k».proof.Proof.Scan.Steps
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)

/-! What one grid point leaves: the carried state after its four sub-blocks and the four sub-blocks of output. -/

namespace Cert.ScanIdeal.Value
open Cert.ScanIdeal Cert.ScanIdeal.Gen
variable (m : (ℓ : Loc nD τ sig) → Buf (Elt Ideal) ℓ)

/-- The activations of sub-block `s` of a grid point. -/
def uAt (c : Dev nD) (t : Fin cfg0.N) : ℕ → Vec Ideal S128x256 .f32
  | 0 => View.ld (iblk m c 0 t) (Rect.unit ![0, 0] ![128, 256] inb_S512x256_S128x256_0_0)
  | 1 => View.ld (iblk m c 0 t) (Rect.unit ![128, 0] ![128, 256] inb_S512x256_S128x256_128_0)
  | 2 => View.ld (iblk m c 0 t) (Rect.unit ![256, 0] ![128, 256] inb_S512x256_S128x256_256_0)
  | _ + 3 => View.ld (iblk m c 0 t) (Rect.unit ![384, 0] ![128, 256] inb_S512x256_S128x256_384_0)

/-- The inputs to the states in sub-block `s`. -/
def buAt (c : Dev nD) (t : Fin cfg0.N) (s : ℕ) : FVec Ideal S128x2048 .f32 := k0_pay9 (uAt m c t s) (iblk m c 1 t)

/-- The carried state within sub-block `s` after `k` step pairs. -/
def stepAt (c : Dev nD) (t : Fin cfg0.N) (s : ℕ) (p : Rows × Rows) (k : ℕ) : Rows × Rows :=
  carry (k0_pay4 (iblk m c 4 t)) (k0_pay5 (iblk m c 5 t)) (k0_pay6 (iblk m c 6 t)) (k0_pay7 (iblk m c 7 t)) (buAt m c t s) p k

/-- The carried state after `s` sub-blocks. -/
def carryAt (c : Dev nD) (t : Fin cfg0.N) (p : Rows × Rows) : ℕ → Rows × Rows
  | 0 => p
  | s + 1 => stepAt m c t s (carryAt c t p s) 16

/-- The real states of sub-block `s`. -/
def reAt (c : Dev nD) (t : Fin cfg0.N) (s : ℕ) (p : Rows × Rows) (k : ℕ) : Rows :=
  hR (k0_pay4 (iblk m c 4 t)) (k0_pay5 (iblk m c 5 t)) (k0_pay6 (iblk m c 6 t)) (k0_pay7 (iblk m c 7 t)) (buAt m c t s) (stepAt m c t s p k) k

/-- The imaginary states of sub-block `s`. -/
def imAt (c : Dev nD) (t : Fin cfg0.N) (s : ℕ) (p : Rows × Rows) (k : ℕ) : Rows :=
  hI (k0_pay4 (iblk m c 4 t)) (k0_pay5 (iblk m c 5 t)) (k0_pay6 (iblk m c 6 t)) (k0_pay7 (iblk m c 7 t)) (buAt m c t s) (stepAt m c t s p k) k

/-- The output of sub-block `s`, from the state carried into it. -/
def outAt (c : Dev nD) (t : Fin cfg0.N) (s : ℕ) (p : Rows × Rows) : FVec Ideal S128x256 .bf16 :=
  act (yPre (reAt m c t s p) (imAt m c t s p) (uAt m c t s) (iblk m c 2 t) (iblk m c 3 t))

/-- The pieces of a block of output. -/
def pieces (o : ℕ → FVec Ideal S128x256 .bf16) : Vec Ideal S512x256 .bf16 :=
  View.canon [⟨Rect.unit ![384, 0] ![128, 256] inb_S512x256_S128x256_384_0, o 3⟩, ⟨Rect.unit ![256, 0] ![128, 256] inb_S512x256_S128x256_256_0, o 2⟩,
    ⟨Rect.unit ![128, 0] ![128, 256] inb_S512x256_S128x256_128_0, o 1⟩, ⟨Rect.unit ![0, 0] ![128, 256] inb_S512x256_S128x256_0_0, o 0⟩]

set_option maxHeartbeats 1000000 in
/-- Past the first point of a group block the real state carries on. -/
theorem state_re (c : Dev nD) (t : Fin cfg0.N) (acc : Vec Ideal S512x256 .bf16 × Vec Ideal S8x1024 .f32 × Vec Ideal S8x1024 .f32) (h0 : ¬t.val % 64 = 0) :
    (stAt0 m c t.val t.isLt acc).2.1 = (carryAt m c t acc.2 4).1 := by
  rw [stAt0_B m c t acc h0]
  dsimp only
  frame_out
  simp only [read_unread_whole]
  refine Eq.trans ?_ (shapeCast_id (carryAt m c t acc.2 4).1 shapeCasts_S8x1024_S8x1024)
  simp only [pieces, outAt, reAt, imAt, carryAt, stepAt, buAt, uAt]
  rfl

set_option maxHeartbeats 1000000 in
/-- … and the imaginary state. -/
theorem state_im (c : Dev nD) (t : Fin cfg0.N) (acc : Vec Ideal S512x256 .bf16 × Vec Ideal S8x1024 .f32 × Vec Ideal S8x1024 .f32) (h0 : ¬t.val % 64 = 0) :
    (stAt0 m c t.val t.isLt acc).2.2 = (carryAt m c t acc.2 4).2 := by
  rw [stAt0_B m c t acc h0]
  dsimp only
  frame_out
  simp only [read_unread_whole]
  refine Eq.trans ?_ (shapeCast_id (carryAt m c t acc.2 4).2 shapeCasts_S8x1024_S8x1024)
  simp only [pieces, outAt, reAt, imAt, carryAt, stepAt, buAt, uAt]
  rfl

set_option maxHeartbeats 1000000 in
/-- … and the output is computed from the carried states. -/
theorem out_B (c : Dev nD) (t : Fin cfg0.N) (acc : Vec Ideal S512x256 .bf16 × Vec Ideal S8x1024 .f32 × Vec Ideal S8x1024 .f32) (h0 : ¬t.val % 64 = 0) :
    (stAt0 m c t.val t.isLt acc).1 = pieces fun s => outAt m c t s (carryAt m c t acc.2 s) := by
  rw [stAt0_B m c t acc h0]
  dsimp only
  frame_out
  simp only [read_unread_whole]
  simp only [pieces, outAt, reAt, imAt, carryAt, stepAt, buAt, uAt]
  rfl

set_option maxHeartbeats 1000000 in
/-- At the first point of a group block the real state starts from zero. -/
theorem reset_re (c : Dev nD) (t : Fin cfg0.N) (acc : Vec Ideal S512x256 .bf16 × Vec Ideal S8x1024 .f32 × Vec Ideal S8x1024 .f32) (h0 : t.val % 64 = 0) :
    (stAt0 m c t.val t.isLt acc).2.1 = (carryAt m c t (k0_pay2, k0_pay3) 4).1 := by
  rw [stAt0_A m c t acc h0]
  dsimp only
  frame_out
  refine Eq.trans ?_ (shapeCast_id (carryAt m c t (k0_pay2, k0_pay3) 4).1 shapeCasts_S8x1024_S8x1024)
  simp only [pieces, outAt, reAt, imAt, carryAt, stepAt, buAt, uAt]
  rfl

set_option maxHeartbeats 1000000 in
/-- … and the imaginary state. -/
theorem reset_im (c : Dev nD) (t : Fin cfg0.N) (acc : Vec Ideal S512x256 .bf16 × Vec Ideal S8x1024 .f32 × Vec Ideal S8x1024 .f32) (h0 : t.val % 64 = 0) :
    (stAt0 m c t.val t.isLt acc).2.2 = (carryAt m c t (k0_pay2, k0_pay3) 4).2 := by
  rw [stAt0_A m c t acc h0]
  dsimp only
  frame_out
  refine Eq.trans ?_ (shapeCast_id (carryAt m c t (k0_pay2, k0_pay3) 4).2 shapeCasts_S8x1024_S8x1024)
  simp only [pieces, outAt, reAt, imAt, carryAt, stepAt, buAt, uAt]
  rfl

set_option maxHeartbeats 1000000 in
/-- … and the output is computed from there. -/
theorem out_A (c : Dev nD) (t : Fin cfg0.N) (acc : Vec Ideal S512x256 .bf16 × Vec Ideal S8x1024 .f32 × Vec Ideal S8x1024 .f32) (h0 : t.val % 64 = 0) :
    (stAt0 m c t.val t.isLt acc).1 = pieces fun s => outAt m c t s (carryAt m c t (k0_pay2, k0_pay3) s) := by
  rw [stAt0_A m c t acc h0]
  dsimp only
  frame_out
  simp only [pieces, outAt, reAt, imAt, carryAt, stepAt, buAt, uAt]
  rfl

end Cert.ScanIdeal.Value
end
-- ==== Proof.Scan.Spec.lean ====
module

public import Mathlib.Data.EReal.Operations
public import Mathlib.Analysis.SpecialFunctions.Trigonometric.Basic
public import Idealize.ShloMosaic.Lib.Pipeline.ValueKit

@[expose] public section
noncomputable section

/-! The recurrence as a function of real inputs: what both the kernel and the reference compute. -/

namespace Cert.Scan

/-- The inputs, by number: rows and columns of the activations, group, state and channel of the parameters. -/
structure Par where
  x : ℕ → ℕ → ℝ
  lr : ℕ → ℕ → ℝ
  li : ℕ → ℕ → ℝ
  br : ℕ → ℕ → ℕ → ℝ
  bi : ℕ → ℕ → ℕ → ℝ
  cr : ℕ → ℕ → ℕ → EReal
  ci : ℕ → ℕ → ℕ → ℝ
  d : ℕ → EReal
  ldt : ℕ → ℝ

namespace Par
variable (q : Par)

/-- The step length of a group. -/
def dt (g : ℕ) : ℝ := Real.exp (q.ldt g)
/-- The real part of the discretized transition. -/
def ar (g p : ℕ) : ℝ := Real.exp (q.lr g p * q.dt g) * Real.cos (q.li g p * q.dt g)
/-- The imaginary part of the discretized transition. -/
def ai (g p : ℕ) : ℝ := Real.exp (q.lr g p * q.dt g) * Real.sin (q.li g p * q.dt g)
/-- The squared modulus of the continuous transition. -/
def den (g p : ℕ) : ℝ := q.lr g p * q.lr g p + q.li g p * q.li g p
/-- The real part of the input coefficient. -/
def cfr (g p : ℕ) : ℝ := ((q.ar g p - 1) * q.lr g p + q.ai g p * q.li g p) / q.den g p
/-- The imaginary part of the input coefficient. -/
def cfi (g p : ℕ) : ℝ := (q.ai g p * q.lr g p - (q.ar g p - 1) * q.li g p) / q.den g p
/-- The real part of the discretized input matrix. -/
def bR (g p c : ℕ) : ℝ := q.cfr g p * q.br g p c - q.cfi g p * q.bi g p c
/-- The imaginary part of the discretized input matrix. -/
def bI (g p c : ℕ) : ℝ := q.cfr g p * q.bi g p c + q.cfi g p * q.br g p c
/-- The real part of the input to a state at a row. -/
def uR (r g p : ℕ) : ℝ := ∑ c : Fin 16, q.bR g p c * q.x r (g * 16 + c)
/-- The imaginary part of the input to a state at a row. -/
def uI (r g p : ℕ) : ℝ := ∑ c : Fin 16, q.bI g p c * q.x r (g * 16 + c)

/-- The state of batch entry `b` before time step `t`. -/
def H (b g p : ℕ) : ℕ → ℝ × ℝ
  | 0 => (0, 0)
  | t + 1 => (q.ar g p * (H b g p t).1 - q.ai g p * (H b g p t).2 + q.uR (t * 4 + b) g p,
      q.ar g p * (H b g p t).2 + q.ai g p * (H b g p t).1 + q.uI (t * 4 + b) g p)

/-- The layer's output before the activation function. -/
def y (r g c : ℕ) : EReal :=
  (∑ p : Fin 64, ((q.H (r % 4) g p (r / 4 + 1)).1 : EReal) * q.cr g c p
      - ∑ p : Fin 64, ((q.H (r % 4) g p (r / 4 + 1)).2 : EReal) * (q.ci g c p : EReal))
    + q.d (g * 16 + c) * (q.x r (g * 16 + c) : EReal)

end Par
end Cert.Scan
end
-- ==== Proof.Scan.Pair.lean ====
module

public import proofs.«01_k».proof.Proof.Gen.ScanIdeal.Value
public import proofs.«01_k».proof.Proof.Scan.Steps
public import proofs.«01_k».proof.Proof.Scan.Spec
public import Idealize.ShloMosaic.Lib.Pipeline.ValueKit
public import Idealize.ShloMosaic.Lib.Pipeline.ReadBack
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)
namespace Cert.ScanIdeal.Value
open Cert.ScanIdeal Cert.ScanIdeal.Gen
open Cert.Scan (Par)

/-- The mask of the later step's rows. -/
theorem mask_eq : ∀ j < 8, IntOp.cmpi .sge (BitVec.ofNat 32 j) 4#32 = BitVec.ofBool (decide (4 ≤ j)) := by decide

/-- Both halves hold the later step's rows. -/
theorem last_eq (h : Rows) (f : ℕ → ℕ → EReal) (hh : ∀ y : S8x1024.Idx, 4 ≤ (y 0).val → h y = f ((y 0).val % 4) (y 1).val)
    (y : S8x1024.Idx) : last h y = f ((y 0).val % 4) (y 1).val := by
  have h0 : (y 0).val < 8 := (y 0).isLt
  pointwise [last, rot, k0_pay8]
  rw [mask_eq _ h0]
  by_cases h4 : 4 ≤ (y 0).val
  · rw [← hh y h4]
    simp [h4, Scalar.select]
  · have e2 : ((y 0).val + 8 - 4) % 8 % 4 = (y 0).val % 4 := by omega
    have e := (hh (ix2 ⟨((y 0).val + 8 - 4) % 8, by omega⟩ (y 1)) (by show 4 ≤ ((y 0).val + 8 - 4) % 8; omega)).trans
      (congrArg₂ f e2 rfl)
    simp [h4, Scalar.select]
    exact e

/-- One pair of steps is two steps of the recurrence. -/
theorem step (q : Par) (gb T : ℕ) {A B C D : Rows} {U : FVec Ideal S128x2048 .f32} {p : Rows × Rows} {k : ℕ} (hk : k < 16)
    (hA : ∀ y : S8x1024.Idx, A y = ((if (y 0).val < 4 then q.ar (gb * 16 + (y 1).val / 64) ((y 1).val % 64) else
      q.ar (gb * 16 + (y 1).val / 64) ((y 1).val % 64) * q.ar (gb * 16 + (y 1).val / 64) ((y 1).val % 64)
        - q.ai (gb * 16 + (y 1).val / 64) ((y 1).val % 64) * q.ai (gb * 16 + (y 1).val / 64) ((y 1).val % 64) : ℝ) : EReal))
    (hB : ∀ y : S8x1024.Idx, B y = ((if (y 0).val < 4 then q.ai (gb * 16 + (y 1).val / 64) ((y 1).val % 64) else
      2 * q.ar (gb * 16 + (y 1).val / 64) ((y 1).val % 64) * q.ai (gb * 16 + (y 1).val / 64) ((y 1).val % 64) : ℝ) : EReal))
    (hC : ∀ y : S8x1024.Idx, C y = ((if (y 0).val < 4 then 0 else q.ar (gb * 16 + (y 1).val / 64) ((y 1).val % 64) : ℝ) : EReal))
    (hD : ∀ y : S8x1024.Idx, D y = ((if (y 0).val < 4 then 0 else q.ai (gb * 16 + (y 1).val / 64) ((y 1).val % 64) : ℝ) : EReal))
    (hU : ∀ i : S128x2048.Idx, U i = ((if (i 1).val < 1024 then q.uR (4 * T + (i 0).val) (gb * 16 + (i 1).val / 64) ((i 1).val % 64)
      else q.uI (4 * T + (i 0).val) (gb * 16 + ((i 1).val - 1024) / 64) (((i 1).val - 1024) % 64) : ℝ) : EReal))
    (hp : ∀ y : S8x1024.Idx, p.1 y = ((q.H ((y 0).val % 4) (gb * 16 + (y 1).val / 64) ((y 1).val % 64) (T + 2 * k)).1 : EReal)
      ∧ p.2 y = ((q.H ((y 0).val % 4) (gb * 16 + (y 1).val / 64) ((y 1).val % 64) (T + 2 * k)).2 : EReal))
    (y : S8x1024.Idx) :
    hR A B C D U p k y = ((q.H ((y 0).val % 4) (gb * 16 + (y 1).val / 64) ((y 1).val % 64) (T + 2 * k + (y 0).val / 4 + 1)).1 : EReal)
      ∧ hI A B C D U p k y = ((q.H ((y 0).val % 4) (gb * 16 + (y 1).val / 64) ((y 1).val % 64) (T + 2 * k + (y 0).val / 4 + 1)).2 : EReal) := by
  have h0 : (y 0).val < 8 := (y 0).isLt
  have h1 : (y 1).val < 1024 := (y 1).isLt
  pointwise [hR, hI, xR, xI, rot]
  simp only [hA, hB, hC, hD, hU, (hp y).1, (hp y).2, ix2_0, ix2_1]
  have e1 : ¬ 1024 + (y 1).val < 1024 := by omega
  simp only [Nat.mod_eq_of_lt hk, ← EReal.coe_mul, ← EReal.coe_sub, ← EReal.coe_add, EReal.coe_eq_coe_iff, h1, e1, if_true, if_false,
    Nat.add_sub_cancel_left]
  by_cases h4 : (y 0).val < 4
  · have e2 : (y 0).val / 4 = 0 := by omega
    have e3 : (T + 2 * k) * 4 + (y 0).val % 4 = 4 * T + (8 * k + (y 0).val) := by omega
    simp only [h4, if_true, e2, Nat.add_zero, Par.H, e3]
    constructor <;> ring
  · have e2 : (y 0).val / 4 = 1 := by omega
    have e3 : (T + 2 * k) * 4 + (y 0).val % 4 = 4 * T + (8 * k + ((y 0).val + 8 - 4) % 8) := by omega
    have e4 : (T + 2 * k + 1) * 4 + (y 0).val % 4 = 4 * T + (8 * k + (y 0).val) := by omega
    simp only [h4, if_false, e2, Par.H, e3, e4]
    constructor <;> ring

end Cert.ScanIdeal.Value
end
-- ==== Proof.Scan.Sub.lean ====
module

public import proofs.«01_k».proof.Proof.Scan.Point
public import proofs.«01_k».proof.Proof.Scan.Pair
public import proofs.«01_k».proof.Proof.Scan.Spec
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)

/-! One sub-block of a grid point, in terms of the recurrence. -/

namespace Cert.Scan

/-- Reals summed, then read as extended reals. -/
theorem coe_sum {n : ℕ} (f : Fin n → ℝ) : ((∑ i, f i : ℝ) : EReal) = ∑ i, (f i : EReal) :=
  map_sum (⟨⟨fun x : ℝ => (x : EReal), EReal.coe_zero⟩, EReal.coe_add⟩ : ℝ →+ EReal) f Finset.univ

/-- A sum over `a` blocks of `b` of which one block counts. -/
theorem sum_block {M : Type} [AddCommMonoid M] (a b j : ℕ) (hj : j < a) (f : ℕ → M) :
    ∑ x : Fin (a * b), (if x.val / b = j then f x.val else 0) = ∑ c : Fin b, f (j * b + c.val) := by
  rw [← finProdFinEquiv.sum_comp, Fintype.sum_prod_type, Finset.sum_eq_single (⟨j, hj⟩ : Fin a)]
  · refine Finset.sum_congr rfl fun c _ => ?_
    have hb : 0 < b := Nat.zero_lt_of_lt c.isLt
    have e : (c.val + b * j) / b = j := by rw [Nat.add_mul_div_left _ _ hb, Nat.div_eq_of_lt c.isLt, Nat.zero_add]
    simp only [finProdFinEquiv_apply_val, e, if_true]
    rw [Nat.mul_comm b j, Nat.add_comm]
  · intro i _ hi
    refine Finset.sum_eq_zero fun c _ => if_neg fun h => hi (Fin.ext ?_)
    have hb : 0 < b := Nat.zero_lt_of_lt c.isLt
    have e : (c.val + b * i.val) / b = i.val := by rw [Nat.add_mul_div_left _ _ hb, Nat.div_eq_of_lt c.isLt, Nat.zero_add]
    rw [← e]; exact h
  · intro h; exact absurd (Finset.mem_univ _) h

/-- The activation function, in the order of operations both programs have. -/
def gel (v : EReal) : EReal :=
  v * (Ideal.ofBits .f32 1056964608#32 * (1 + Ideal.tanh (Ideal.ofBits .f32 1061962282#32 * (v + Ideal.ofBits .f32 1027024659#32 * (v * (v * v))))))

end Cert.Scan

namespace Cert.ScanIdeal.Value
open Cert.ScanIdeal Cert.ScanIdeal.Gen
open Cert.Scan (Par gel)
variable (m : (ℓ : Loc nD τ sig) → Buf (Elt Ideal) ℓ)

/-- Row `8 * k + j` of the sub-block is row `j` of step pair `k`. -/
theorem rows_at (h : ℕ → Rows) (y : S128x1024.Idx) (f : ℕ → ℕ → EReal)
    (hf : ∀ k < 16, ∀ z : S8x1024.Idx, h k z = f (8 * k + (z 0).val) (z 1).val) : rowsOf h y = f (y 0).val (y 1).val := by
  have h0 : (y 0).val < 128 := (y 0).isLt
  refine (concatenate_ofFn_apply (t := S128x1024) (s₁ := S8x1024) 0 (fun n : Fin 16 => h n) _ rfl 8 rfl y
    ⟨(y 0).val / 8, by omega⟩ rfl (ix2 ⟨(y 0).val % 8, by omega⟩ (y 1)) ?_ ?_).trans ?_
  · rfl
  · intro b hb
    fin_cases b
    · exact absurd rfl hb
    · rfl
  · refine (hf _ (by show (y 0).val / 8 < 16; omega) _).trans (congrArg₂ f ?_ rfl)
    show 8 * ((y 0).val / 8) + (y 0).val % 8 = _
    omega

theorem yPre_at (h h' : ℕ → Rows) (u : Vec Ideal S128x256 .f32) (cm : Vec Ideal S1x2048x256 .bf16) (d : Vec Ideal S1x256 .f32) (y : S128x256.Idx) :
    yPre h h' u cm d y = (∑ x : Fin 1024, rowsOf h (ix2 (y 0) x) * cm (ix3 0 ⟨x.val, by omega⟩ (y 1))
      + ∑ x : Fin 1024, rowsOf h' (ix2 (y 0) x) * cm (ix3 0 ⟨1024 + x.val, by omega⟩ (y 1))) + d (ix2 0 (y 1)) * u y := by
  pointwise [yPre]

theorem act_at (v : FVec Ideal S128x256 .f32) (y : S128x256.Idx) : act v y = gel (v y) := by
  unfold gel
  pointwise [act]

theorem bu_at (u : Vec Ideal S128x256 .f32) (B : Vec Ideal S1x256x2048 .f32) (y : S128x2048.Idx) :
    k0_pay9 u B y = ∑ x : Fin 256, u (ix2 (y 0) x) * B (ix3 0 x (y 1)) := by
  pointwise [k0_pay9]

theorem pay4_at (A : Vec Ideal S1x8x1024 .f32) (y : S8x1024.Idx) : k0_pay4 A y = A (ix3 0 (y 0) (y 1)) := by pointwise [k0_pay4]
theorem pay5_at (A : Vec Ideal S1x8x1024 .f32) (y : S8x1024.Idx) : k0_pay5 A y = A (ix3 0 (y 0) (y 1)) := by pointwise [k0_pay5]
theorem pay6_at (A : Vec Ideal S1x8x1024 .f32) (y : S8x1024.Idx) : k0_pay6 A y = A (ix3 0 (y 0) (y 1)) := by pointwise [k0_pay6]
theorem pay7_at (A : Vec Ideal S1x8x1024 .f32) (y : S8x1024.Idx) : k0_pay7 A y = A (ix3 0 (y 0) (y 1)) := by pointwise [k0_pay7]
theorem pay2_at (y : S8x1024.Idx) : (k0_pay2 : Rows) y = 0 := by pointwise [k0_pay2]
theorem pay3_at (y : S8x1024.Idx) : (k0_pay3 : Rows) y = 0 := by pointwise [k0_pay3]

/-- What the windows of a grid point hold: group block `gb`, time block `n`. -/
structure Holds (q : Par) (gb n : ℕ) (c : Dev nD) (t : Fin cfg0.N) : Prop where
  hx : ∀ y : S512x256.Idx, iblk m c 0 t y = ((q.x (512 * n + (y 0).val) (256 * gb + (y 1).val) : ℝ) : EReal)
  hb : ∀ y : S1x256x2048.Idx, iblk m c 1 t y = ((if (y 2).val < 1024
    then (if (y 1).val / 16 = (y 2).val / 64 then q.bR (gb * 16 + (y 2).val / 64) ((y 2).val % 64) ((y 1).val % 16) else 0)
    else (if (y 1).val / 16 = ((y 2).val - 1024) / 64 then q.bI (gb * 16 + ((y 2).val - 1024) / 64) (((y 2).val - 1024) % 64) ((y 1).val % 16) else 0) : ℝ) : EReal)
  hc : ∀ y : S1x2048x256.Idx, iblk m c 2 t y = (if (y 1).val < 1024
    then (if (y 1).val / 64 = (y 2).val / 16 then q.cr (gb * 16 + (y 2).val / 16) ((y 2).val % 16) ((y 1).val % 64) else 0)
    else (if ((y 1).val - 1024) / 64 = (y 2).val / 16 then -(q.ci (gb * 16 + (y 2).val / 16) ((y 2).val % 16) (((y 1).val - 1024) % 64) : EReal) else 0) : EReal)
  hd : ∀ y : S1x256.Idx, iblk m c 3 t y = q.d (256 * gb + (y 1).val)
  hA : ∀ y : S1x8x1024.Idx, iblk m c 4 t y = ((if (y 1).val < 4 then q.ar (gb * 16 + (y 2).val / 64) ((y 2).val % 64) else
      q.ar (gb * 16 + (y 2).val / 64) ((y 2).val % 64) * q.ar (gb * 16 + (y 2).val / 64) ((y 2).val % 64)
        - q.ai (gb * 16 + (y 2).val / 64) ((y 2).val % 64) * q.ai (gb * 16 + (y 2).val / 64) ((y 2).val % 64) : ℝ) : EReal)
  hB : ∀ y : S1x8x1024.Idx, iblk m c 5 t y = ((if (y 1).val < 4 then q.ai (gb * 16 + (y 2).val / 64) ((y 2).val % 64) else
      2 * q.ar (gb * 16 + (y 2).val / 64) ((y 2).val % 64) * q.ai (gb * 16 + (y 2).val / 64) ((y 2).val % 64) : ℝ) : EReal)
  hC : ∀ y : S1x8x1024.Idx, iblk m c 6 t y = ((if (y 1).val < 4 then 0 else q.ar (gb * 16 + (y 2).val / 64) ((y 2).val % 64) : ℝ) : EReal)
  hD : ∀ y : S1x8x1024.Idx, iblk m c 7 t y = ((if (y 1).val < 4 then 0 else q.ai (gb * 16 + (y 2).val / 64) ((y 2).val % 64) : ℝ) : EReal)

/-- A carried pair that is the state of the recurrence before time `T`. -/
def IsP (q : Par) (gb T : ℕ) (p : Rows × Rows) : Prop :=
  ∀ y : S8x1024.Idx, p.1 y = ((q.H ((y 0).val % 4) (gb * 16 + (y 1).val / 64) ((y 1).val % 64) T).1 : EReal)
      ∧ p.2 y = ((q.H ((y 0).val % 4) (gb * 16 + (y 1).val / 64) ((y 1).val % 64) T).2 : EReal)

theorem isP_zero (q : Par) (gb : ℕ) : IsP q gb 0 (k0_pay2, k0_pay3) := fun y =>
  ⟨(pay2_at y).trans (by simp [Par.H]), (pay3_at y).trans (by simp [Par.H])⟩

variable {m} {q : Par} {gb n : ℕ} {c : Dev nD} {t : Fin cfg0.N}

theorem u_at (h : Holds m q gb n c t) {s : ℕ} (hs : s < 4) (y : S128x256.Idx) :
    uAt m c t s y = ((q.x (4 * (128 * n + 32 * s) + (y 0).val) (256 * gb + (y 1).val) : ℝ) : EReal) := by
  obtain rfl | rfl | rfl | rfl : s = 0 ∨ s = 1 ∨ s = 2 ∨ s = 3 := by omega
  all_goals
    simp only [uAt]
    refine (h.hx _).trans (congrArg _ (congrArg₂ q.x ?_ ?_))
    · show _ = _
      simp [View.ld, Rect.unit]
      try omega
    · simp [View.ld, Rect.unit]

theorem isU (h : Holds m q gb n c t) {s : ℕ} (hs : s < 4) (i : S128x2048.Idx) :
    buAt m c t s i = ((if (i 1).val < 1024 then q.uR (4 * (128 * n + 32 * s) + (i 0).val) (gb * 16 + (i 1).val / 64) ((i 1).val % 64)
      else q.uI (4 * (128 * n + 32 * s) + (i 0).val) (gb * 16 + ((i 1).val - 1024) / 64) (((i 1).val - 1024) % 64) : ℝ) : EReal) := by
  have h1 : (i 1).val < 2048 := (i 1).isLt
  unfold buAt
  rw [bu_at]
  have e : ∀ x : Fin 256, uAt m c t s (ix2 (i 0) x) * iblk m c 1 t (ix3 0 x (i 1)) =
      ((q.x (4 * (128 * n + 32 * s) + (i 0).val) (256 * gb + x.val) * (if (i 1).val < 1024
        then (if x.val / 16 = (i 1).val / 64 then q.bR (gb * 16 + (i 1).val / 64) ((i 1).val % 64) (x.val % 16) else 0)
        else (if x.val / 16 = ((i 1).val - 1024) / 64 then q.bI (gb * 16 + ((i 1).val - 1024) / 64) (((i 1).val - 1024) % 64) (x.val % 16) else 0)) : ℝ) : EReal) :=
    fun x => (congrArg₂ (· * ·) (u_at h hs (ix2 (i 0) x)) (h.hb (ix3 0 x (i 1)))).trans (EReal.coe_mul _ _).symm
  refine (Finset.sum_congr rfl fun x _ => e x).trans ?_
  rw [← Cert.Scan.coe_sum]
  refine congrArg _ ?_
  by_cases hl : (i 1).val < 1024
  · simp only [hl, if_true, mul_ite, mul_zero]
    refine (Cert.Scan.sum_block 16 16 ((i 1).val / 64) (by omega) (fun x =>
      q.x (4 * (128 * n + 32 * s) + (i 0).val) (256 * gb + x) * q.bR (gb * 16 + (i 1).val / 64) ((i 1).val % 64) (x % 16))).trans ?_
    refine Finset.sum_congr rfl fun x _ => ?_
    have hx := x.isLt
    have e1 : ((i 1).val / 64 * 16 + x.val) % 16 = x.val := by omega
    have e2 : 256 * gb + ((i 1).val / 64 * 16 + x.val) = (gb * 16 + (i 1).val / 64) * 16 + x.val := by omega
    simp only [e1, e2]; exact mul_comm _ _
  · simp only [hl, if_false, mul_ite, mul_zero]
    refine (Cert.Scan.sum_block 16 16 (((i 1).val - 1024) / 64) (by omega) (fun x =>
      q.x (4 * (128 * n + 32 * s) + (i 0).val) (256 * gb + x) * q.bI (gb * 16 + ((i 1).val - 1024) / 64) (((i 1).val - 1024) % 64) (x % 16))).trans ?_
    refine Finset.sum_congr rfl fun x _ => ?_
    have hx := x.isLt
    have e1 : (((i 1).val - 1024) / 64 * 16 + x.val) % 16 = x.val := by omega
    have e2 : 256 * gb + (((i 1).val - 1024) / 64 * 16 + x.val) = (gb * 16 + ((i 1).val - 1024) / 64) * 16 + x.val := by omega
    simp only [e1, e2]; exact mul_comm _ _

/-- One pair of steps within a sub-block. -/
theorem pair_at (h : Holds m q gb n c t) {s : ℕ} (hs : s < 4) {p : Rows × Rows} {k : ℕ} (hk : k < 16)
    (hp : IsP q gb (128 * n + 32 * s + 2 * k) (stepAt m c t s p k)) (y : S8x1024.Idx) :
    reAt m c t s p k y = ((q.H ((y 0).val % 4) (gb * 16 + (y 1).val / 64) ((y 1).val % 64) (128 * n + 32 * s + 2 * k + (y 0).val / 4 + 1)).1 : EReal)
      ∧ imAt m c t s p k y = ((q.H ((y 0).val % 4) (gb * 16 + (y 1).val / 64) ((y 1).val % 64) (128 * n + 32 * s + 2 * k + (y 0).val / 4 + 1)).2 : EReal) :=
  step q gb (128 * n + 32 * s) hk (fun y => (pay4_at _ y).trans (h.hA _)) (fun y => (pay5_at _ y).trans (h.hB _))
    (fun y => (pay6_at _ y).trans (h.hC _)) (fun y => (pay7_at _ y).trans (h.hD _)) (isU h hs) hp y

theorem isP_step (h : Holds m q gb n c t) {s : ℕ} (hs : s < 4) {p : Rows × Rows} (hp : IsP q gb (128 * n + 32 * s) p) :
    ∀ k ≤ 16, IsP q gb (128 * n + 32 * s + 2 * k) (stepAt m c t s p k)
  | 0, _ => hp
  | k + 1, hk => fun y => by
    have ih := pair_at h hs (by omega : k < 16) (isP_step h hs hp k (by omega))
    have e : 128 * n + 32 * s + 2 * (k + 1) = 128 * n + 32 * s + 2 * k + 1 + 1 := by omega
    rw [e]
    constructor
    · refine last_eq (reAt m c t s p k) (fun a b => ((q.H a (gb * 16 + b / 64) (b % 64) (128 * n + 32 * s + 2 * k + 1 + 1)).1 : EReal)) (fun z hz => ?_) y
      have hz8 : (z 0).val < 8 := (z 0).isLt
      have e2 : (z 0).val / 4 = 1 := by omega
      exact (ih z).1.trans (by rw [e2])
    · refine last_eq (imAt m c t s p k) (fun a b => ((q.H a (gb * 16 + b / 64) (b % 64) (128 * n + 32 * s + 2 * k + 1 + 1)).2 : EReal)) (fun z hz => ?_) y
      have hz8 : (z 0).val < 8 := (z 0).isLt
      have e2 : (z 0).val / 4 = 1 := by omega
      exact (ih z).2.trans (by rw [e2])

theorem isP_carry (h : Holds m q gb n c t) {p : Rows × Rows} (hp : IsP q gb (128 * n) p) :
    ∀ s ≤ 4, IsP q gb (128 * n + 32 * s) (carryAt m c t p s)
  | 0, _ => hp
  | s + 1, hs => isP_step h (by omega : s < 4) (isP_carry h hp s (by omega)) 16 (by omega)

/-- The output of a sub-block is the layer's output. -/
theorem out_at (h : Holds m q gb n c t) {s : ℕ} (hs : s < 4) {p : Rows × Rows} (hp : IsP q gb (128 * n + 32 * s) p) (y : S128x256.Idx) :
    outAt m c t s p y = gel (q.y (4 * (128 * n + 32 * s) + (y 0).val) (gb * 16 + (y 1).val / 16) ((y 1).val % 16)) := by
  have h0 : (y 0).val < 128 := (y 0).isLt
  have h1 : (y 1).val < 256 := (y 1).isLt
  unfold outAt
  rw [act_at, yPre_at]
  refine congrArg gel ?_
  have eR := fun i : S128x1024.Idx => rows_at (reAt m c t s p) i
    (fun a b => ((q.H (a % 4) (gb * 16 + b / 64) (b % 64) (128 * n + 32 * s + a / 4 + 1)).1 : EReal))
    (fun k hk z => by
      have hz : (z 0).val < 8 := (z 0).isLt
      have e1 : (8 * k + (z 0).val) % 4 = (z 0).val % 4 := by omega
      have e2 : 128 * n + 32 * s + (8 * k + (z 0).val) / 4 + 1 = 128 * n + 32 * s + 2 * k + (z 0).val / 4 + 1 := by omega
      rw [e1, e2]
      exact (pair_at h hs hk (isP_step h hs hp k (by omega)) z).1)
  have eI := fun i : S128x1024.Idx => rows_at (imAt m c t s p) i
    (fun a b => ((q.H (a % 4) (gb * 16 + b / 64) (b % 64) (128 * n + 32 * s + a / 4 + 1)).2 : EReal))
    (fun k hk z => by
      have hz : (z 0).val < 8 := (z 0).isLt
      have e1 : (8 * k + (z 0).val) % 4 = (z 0).val % 4 := by omega
      have e2 : 128 * n + 32 * s + (8 * k + (z 0).val) / 4 + 1 = 128 * n + 32 * s + 2 * k + (z 0).val / 4 + 1 := by omega
      rw [e1, e2]
      exact (pair_at h hs hk (isP_step h hs hp k (by omega)) z).2)
  have eC1 : ∀ x : Fin 1024, iblk m c 2 t (ix3 0 ⟨x.val, by omega⟩ (y 1)) = _ := fun x => (h.hc (ix3 0 ⟨x.val, by omega⟩ (y 1))).trans (if_pos x.isLt)
  have eC2 : ∀ x : Fin 1024, iblk m c 2 t (ix3 0 ⟨1024 + x.val, by omega⟩ (y 1)) =
      (if x.val / 64 = (y 1).val / 16 then -(q.ci (gb * 16 + (y 1).val / 16) ((y 1).val % 16) (x.val % 64) : EReal) else 0) := fun x =>
    ((h.hc (ix3 0 ⟨1024 + x.val, by omega⟩ (y 1))).trans (if_neg (by show ¬ 1024 + x.val < 1024; omega))).trans (by
      show (if (1024 + x.val - 1024) / 64 = (y 1).val / 16 then -(q.ci (gb * 16 + (y 1).val / 16) ((y 1).val % 16) ((1024 + x.val - 1024) % 64) : EReal) else 0) = _
      rw [Nat.add_sub_cancel_left])
  have eD : iblk m c 3 t (ix2 0 (y 1)) = q.d (256 * gb + (y 1).val) := h.hd (ix2 0 (y 1))
  simp only [eR, eI, eD, u_at h hs, ix2_0, ix2_1]
  have hj : (y 1).val / 16 < 16 := by omega
  have e3 : (4 * (128 * n + 32 * s) + (y 0).val) % 4 = (y 0).val % 4 := by omega
  have e4 : (4 * (128 * n + 32 * s) + (y 0).val) / 4 + 1 = 128 * n + 32 * s + (y 0).val / 4 + 1 := by omega
  have e5 : 256 * gb + (y 1).val = (gb * 16 + (y 1).val / 16) * 16 + (y 1).val % 16 := by omega
  unfold Par.y
  rw [e3, e4, e5]
  refine congrArg₂ (· + ·) ?_ rfl
  rw [sub_eq_add_neg]
  refine congrArg₂ (· + ·) ?_ ?_
  · refine (Finset.sum_congr rfl fun x _ => (congrArg (_ * ·) (eC1 x)).trans (mul_ite_zero _ _ _)).trans ?_
    refine (Cert.Scan.sum_block 16 64 ((y 1).val / 16) hj (fun x =>
      ((q.H ((y 0).val % 4) (gb * 16 + x / 64) (x % 64) (128 * n + 32 * s + (y 0).val / 4 + 1)).1 : EReal)
        * q.cr (gb * 16 + (y 1).val / 16) ((y 1).val % 16) (x % 64))).trans ?_
    refine Finset.sum_congr rfl fun x _ => ?_
    have hx := x.isLt
    have e6 : ((y 1).val / 16 * 64 + x.val) / 64 = (y 1).val / 16 := by omega
    have e7 : ((y 1).val / 16 * 64 + x.val) % 64 = x.val := by omega
    simp only [e6, e7]
  · refine (Finset.sum_congr rfl fun x _ => (congrArg (_ * ·) (eC2 x)).trans (mul_ite_zero _ _ _)).trans ?_
    refine (Cert.Scan.sum_block 16 64 ((y 1).val / 16) hj (fun x =>
      ((q.H ((y 0).val % 4) (gb * 16 + x / 64) (x % 64) (128 * n + 32 * s + (y 0).val / 4 + 1)).2 : EReal)
        * -(q.ci (gb * 16 + (y 1).val / 16) ((y 1).val % 16) (x % 64) : EReal))).trans ?_
    simp only [← EReal.coe_neg, ← EReal.coe_mul, ← Cert.Scan.coe_sum]
    refine congrArg _ ?_
    rw [← Finset.sum_neg_distrib]
    refine Finset.sum_congr rfl fun x _ => ?_
    have hx := x.isLt
    have e6 : ((y 1).val / 16 * 64 + x.val) / 64 = (y 1).val / 16 := by omega
    have e7 : ((y 1).val / 16 * 64 + x.val) % 64 = x.val := by omega
    simp only [e6, e7, mul_neg]

end Cert.ScanIdeal.Value
end
-- ==== Proof.Scan.Args.lean ====
module

public import proofs.«01_k».proof.Proof.Scan.Spec
public import Idealize.ShloMosaic.Lib.Pipeline.ValueKit

@[expose] public section
noncomputable section
open Idealize.ShloMosaic

/-! The argument arrays as the inputs of the recurrence, and the discretization over extended reals. -/

namespace Cert.Scan

/-- The arrays hold the inputs `q`, and no transition is zero. -/
structure Args (q : Par) (x0 : (⟨2, ![32768, 2048]⟩ : Shape).Idx → EReal) (x1 x2 : (⟨3, ![1, 128, 64]⟩ : Shape).Idx → EReal)
    (x3 x4 : (⟨4, ![1, 128, 64, 16]⟩ : Shape).Idx → EReal) (x5 x6 : (⟨4, ![1, 128, 16, 64]⟩ : Shape).Idx → EReal)
    (x7 : (⟨2, ![1, 2048]⟩ : Shape).Idx → EReal) (x8 : (⟨2, ![1, 128]⟩ : Shape).Idx → EReal) : Prop where
  x : ∀ a b, x0 (ix2 a b) = (q.x a.val b.val : EReal)
  lr : ∀ a b c, x1 (ix3 a b c) = (q.lr b.val c.val : EReal)
  li : ∀ a b c, x2 (ix3 a b c) = (q.li b.val c.val : EReal)
  br : ∀ a b c d, x3 (ix4 a b c d) = (q.br b.val c.val d.val : EReal)
  bi : ∀ a b c d, x4 (ix4 a b c d) = (q.bi b.val c.val d.val : EReal)
  cr : ∀ a b c d, x5 (ix4 a b c d) = q.cr b.val c.val d.val
  ci : ∀ a b c d, x6 (ix4 a b c d) = (q.ci b.val c.val d.val : EReal)
  dd : ∀ a b, x7 (ix2 a b) = q.d b.val
  ldt : ∀ a b, x8 (ix2 a b) = (q.ldt b.val : EReal)
  den : ∀ g p, q.den g p ≠ 0

/-- Equal arrays hold the same inputs. -/
theorem args_eq {q : Par} {x0 y0 : (⟨2, ![32768, 2048]⟩ : Shape).Idx → EReal} {x1 x2 y1 y2 : (⟨3, ![1, 128, 64]⟩ : Shape).Idx → EReal}
    {x3 x4 y3 y4 : (⟨4, ![1, 128, 64, 16]⟩ : Shape).Idx → EReal} {x5 x6 y5 y6 : (⟨4, ![1, 128, 16, 64]⟩ : Shape).Idx → EReal}
    {x7 y7 : (⟨2, ![1, 2048]⟩ : Shape).Idx → EReal} {x8 y8 : (⟨2, ![1, 128]⟩ : Shape).Idx → EReal}
    (h : Args q x0 x1 x2 x3 x4 x5 x6 x7 x8) (e0 : y0 = x0) (e1 : y1 = x1) (e2 : y2 = x2) (e3 : y3 = x3) (e4 : y4 = x4) (e5 : y5 = x5)
    (e6 : y6 = x6) (e7 : y7 = x7) (e8 : y8 = x8) : Args q y0 y1 y2 y3 y4 y5 y6 y7 y8 := by
  subst e0 e1 e2 e3 e4 e5 e6 e7 e8; exact h

namespace Par
variable (q : Par)

theorem e_ar (g p : ℕ) : Ideal.exp ((q.lr g p : EReal) * Ideal.exp (q.ldt g : EReal)) * Ideal.cos ((q.li g p : EReal) * Ideal.exp (q.ldt g : EReal))
    = (q.ar g p : EReal) := by
  simp only [Ideal.exp_coe, Ideal.cos_coe, ← EReal.coe_mul]; rfl

theorem e_ai (g p : ℕ) : Ideal.exp ((q.lr g p : EReal) * Ideal.exp (q.ldt g : EReal)) * Ideal.sin ((q.li g p : EReal) * Ideal.exp (q.ldt g : EReal))
    = (q.ai g p : EReal) := by
  simp only [Ideal.exp_coe, Ideal.sin_coe, ← EReal.coe_mul]; rfl

theorem e_den (g p : ℕ) : (q.lr g p : EReal) * (q.lr g p : EReal) + (q.li g p : EReal) * (q.li g p : EReal) = (q.den g p : EReal) := by
  simp only [← EReal.coe_mul, ← EReal.coe_add]; rfl

theorem e_cfr (h : ∀ g p, q.den g p ≠ 0) (g p : ℕ) :
    Ideal.div (((q.ar g p : EReal) - 1) * (q.lr g p : EReal) + (q.ai g p : EReal) * (q.li g p : EReal)) (q.den g p : EReal) = (q.cfr g p : EReal) := by
  rw [Ideal.div_coe (h g p), ← EReal.coe_one]
  simp only [← EReal.coe_mul, ← EReal.coe_add, ← EReal.coe_sub]
  rw [mul_one_div]; rfl

theorem e_cfi (h : ∀ g p, q.den g p ≠ 0) (g p : ℕ) :
    Ideal.div ((q.ai g p : EReal) * (q.lr g p : EReal) - ((q.ar g p : EReal) - 1) * (q.li g p : EReal)) (q.den g p : EReal) = (q.cfi g p : EReal) := by
  rw [Ideal.div_coe (h g p), ← EReal.coe_one]
  simp only [← EReal.coe_mul, ← EReal.coe_add, ← EReal.coe_sub]
  rw [mul_one_div]; rfl

theorem e_bR (g p c : ℕ) : (q.cfr g p : EReal) * (q.br g p c : EReal) - (q.cfi g p : EReal) * (q.bi g p c : EReal) = (q.bR g p c : EReal) := by
  simp only [← EReal.coe_mul, ← EReal.coe_sub]; rfl

theorem e_bI (g p c : ℕ) : (q.cfr g p : EReal) * (q.bi g p c : EReal) + (q.cfi g p : EReal) * (q.br g p c : EReal) = (q.bI g p c : EReal) := by
  simp only [← EReal.coe_mul, ← EReal.coe_add]; rfl

end Par

/-- The single pattern of a two. -/
theorem two_bits : Ideal.ofBits .f32 0x40000000#32 = ((2 : ℝ) : EReal) := by
  simp [Ideal.ofBits, Ideal.ieee, -EReal.coe_mul]; norm_num

end Cert.Scan
end
-- ==== Proof.Scan.Host.lean ====
module

public import proofs.«01_k».proof.Proof.Scan.Sub
public import proofs.«01_k».proof.Proof.Scan.Args
public import Idealize.ShloMosaic.Lib.StableHlo.ReadAt

@[expose] public section
set_option maxRecDepth 16384
noncomputable section
open Idealize.ShloMosaic Idealize.ShloMosaic.TcCoe Idealize.SL.Sem
open Idealize.ShloMosaic.Pipeline (Dat)

/-! What the program prepares before the grid: the arrays behind the windows. -/

namespace Cert.ScanIdeal.Value
open Cert.ScanIdeal Cert.ScanIdeal.Gen
open Cert.Scan (Par Args)
variable (m : (ℓ : Loc nD τ sig) → Buf (Elt Ideal) ℓ)

/-- The argument arrays of a device hold the inputs. -/
abbrev Ins (q : Par) (c : Dev nD) : Prop :=
  Args q (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7)) (m (c, Proc.tc.devRef main_arg8))

theorem cmp_eye : ∀ a < 16, ∀ b < 16, IntOp.cmpi .eq (IntOp.addi (BitVec.ofNat 32 a) 0#32) (BitVec.ofNat 32 b) = BitVec.ofBool (decide (a = b)) := by
  decide

/-- An entry of the identity matrix. -/
theorem eye_at {a b : ℕ} (ha : a < 16) (hb : b < 16) :
    (FloatOps.uitofp .f32 (IntOp.cmpi .eq (IntOp.addi (BitVec.ofNat 32 a) 0#32) (BitVec.ofNat 32 b)) : Ideal .f32) = (if a = b then 1 else 0 : EReal) := by
  rw [cmp_eye a ha b hb]
  by_cases h : a = b
  · simp only [h, decide_true, if_true]
    show (((1 : ℕ) : ℝ) : EReal) = 1
    simp
  · simp only [h, decide_false, if_false]
    show (((0 : ℕ) : ℝ) : EReal) = 0
    simp

variable {m} {q : Par} {c : Dev nD}

theorem w0 (h : Ins m q c) (a : Fin 32768) (b : Fin 2048) : V m c main_arg0 (ix2 a b) = ((q.x a.val b.val : ℝ) : EReal) := by
  unfold V; after_reads_at
  exact h.x _ _

/-- The transition over one step and over two, real part. -/
theorem w4 (h : Ins m q c) (a b : Fin 8) (d : Fin 1024) : V m c main_v102 (ix3 a b d) = ((if b.val < 4 then q.ar (a.val * 16 + d.val / 64) (d.val % 64) else
      q.ar (a.val * 16 + d.val / 64) (d.val % 64) * q.ar (a.val * 16 + d.val / 64) (d.val % 64)
        - q.ai (a.val * 16 + d.val / 64) (d.val % 64) * q.ai (a.val * 16 + d.val / 64) (d.val % 64) : ℝ) : EReal) := by
  by_cases hl : b.val < 4
  · rw [if_pos hl]
    unfold V; after_reads_at
    rw [dif_pos hl]
    try after_reads_at
    simp only [h.lr, h.li, h.ldt, Par.e_ar, Par.e_ai, ← EReal.coe_mul, ← EReal.coe_sub]
  · rw [if_neg hl]
    unfold V; after_reads_at
    rw [dif_neg hl]
    try after_reads_at
    simp only [h.lr, h.li, h.ldt, Par.e_ar, Par.e_ai, ← EReal.coe_mul, ← EReal.coe_sub]

/-- The transition over one step and over two, imaginary part. -/
theorem w5 (h : Ins m q c) (a b : Fin 8) (d : Fin 1024) : V m c main_v107 (ix3 a b d) = ((if b.val < 4 then q.ai (a.val * 16 + d.val / 64) (d.val % 64) else
      2 * q.ar (a.val * 16 + d.val / 64) (d.val % 64) * q.ai (a.val * 16 + d.val / 64) (d.val % 64) : ℝ) : EReal) := by
  by_cases hl : b.val < 4
  · rw [if_pos hl]
    unfold V; after_reads_at
    rw [dif_pos hl]
    try after_reads_at
    simp only [h.lr, h.li, h.ldt, Par.e_ar, Par.e_ai, Cert.Scan.two_bits, ← EReal.coe_mul]
  · rw [if_neg hl]
    unfold V; after_reads_at
    rw [dif_neg hl]
    try after_reads_at
    simp only [h.lr, h.li, h.ldt, Par.e_ar, Par.e_ai, Cert.Scan.two_bits, ← EReal.coe_mul]

/-- The factor of the earlier input, real part. -/
theorem w6 (h : Ins m q c) (a b : Fin 8) (d : Fin 1024) : V m c main_v112 (ix3 a b d) = ((if b.val < 4 then 0 else
      q.ar (a.val * 16 + d.val / 64) (d.val % 64) : ℝ) : EReal) := by
  by_cases hl : b.val < 4
  · rw [if_pos hl]
    unfold V; after_reads_at
    rw [dif_pos hl]
    try after_reads_at
    simp only [h.lr, h.li, h.ldt, Par.e_ar, Par.e_ai, EReal.coe_zero]
  · rw [if_neg hl]
    unfold V; after_reads_at
    rw [dif_neg hl]
    try after_reads_at
    simp only [h.lr, h.li, h.ldt, Par.e_ar, Par.e_ai, EReal.coe_zero]

/-- The factor of the earlier input, imaginary part. -/
theorem w7 (h : Ins m q c) (a b : Fin 8) (d : Fin 1024) : V m c main_v117 (ix3 a b d) = ((if b.val < 4 then 0 else
      q.ai (a.val * 16 + d.val / 64) (d.val % 64) : ℝ) : EReal) := by
  by_cases hl : b.val < 4
  · rw [if_pos hl]
    unfold V; after_reads_at
    rw [dif_pos hl]
    try after_reads_at
    simp only [h.lr, h.li, h.ldt, Par.e_ar, Par.e_ai, EReal.coe_zero]
  · rw [if_neg hl]
    unfold V; after_reads_at
    rw [dif_neg hl]
    try after_reads_at
    simp only [h.lr, h.li, h.ldt, Par.e_ar, Par.e_ai, EReal.coe_zero]

theorem w3 (h : Ins m q c) (a : Fin 1) (b : Fin 2048) : V m c main_v118 (ix2 a b) = q.d b.val := by
  unfold V; after_reads_at
  simp only [h.dd]

/-- The block-diagonal output matrix. -/
theorem w2 (h : Ins m q c) (a : Fin 8) (b : Fin 2048) (d : Fin 256) : V m c main_v96 (ix3 a b d) = (if b.val < 1024
    then (if b.val / 64 = d.val / 16 then q.cr (a.val * 16 + d.val / 16) (d.val % 16) (b.val % 64) else 0)
    else (if (b.val - 1024) / 64 = d.val / 16 then -(q.ci (a.val * 16 + d.val / 16) (d.val % 16) ((b.val - 1024) % 64) : EReal) else 0) : EReal) := by
  by_cases hl : b.val < 1024
  · rw [if_pos hl]
    unfold V; after_reads_at
    rw [dif_pos hl]
    after_reads_at
    simp only [h.cr]
    rw [eye_at (by omega) (by omega), mul_ite, mul_one, mul_zero]
    by_cases he : b.val / 64 = d.val / 16
    · simp only [he, if_true]
    · simp only [he, if_false]
  · rw [if_neg hl]
    unfold V; after_reads_at
    rw [dif_neg hl]
    after_reads_at
    simp only [h.ci]
    rw [eye_at (by omega) (by omega), mul_ite, mul_one, mul_zero]
    by_cases he : (b.val - 1024) / 64 = d.val / 16
    · simp only [he, if_true]
    · simp only [he, if_false]

/-- The block-diagonal input matrix. -/
theorem w1 (h : Ins m q c) (a : Fin 8) (b : Fin 256) (d : Fin 2048) : V m c main_v77 (ix3 a b d) = ((if d.val < 1024
    then (if b.val / 16 = d.val / 64 then q.bR (a.val * 16 + d.val / 64) (d.val % 64) (b.val % 16) else 0)
    else (if b.val / 16 = (d.val - 1024) / 64 then q.bI (a.val * 16 + (d.val - 1024) / 64) ((d.val - 1024) % 64) (b.val % 16) else 0) : ℝ) : EReal) := by
  by_cases hl : d.val < 1024
  · rw [if_pos hl]
    unfold V; after_reads_at
    rw [dif_pos hl]
    after_reads_at
    simp only [h.lr, h.li, h.br, h.bi, h.ldt, Par.e_ar, Par.e_ai, Par.e_den, Par.e_cfr q h.den, Par.e_cfi q h.den, Par.e_bR, Par.e_bI]
    rw [eye_at (by omega) (by omega), mul_ite, mul_one, mul_zero]
    by_cases he : b.val / 16 = d.val / 64
    · simp only [he, if_true]
    · simp only [he, if_false, EReal.coe_zero]
  · rw [if_neg hl]
    unfold V; after_reads_at
    rw [dif_neg hl]
    after_reads_at
    simp only [h.lr, h.li, h.br, h.bi, h.ldt, Par.e_ar, Par.e_ai, Par.e_den, Par.e_cfr q h.den, Par.e_cfi q h.den, Par.e_bR, Par.e_bI]
    rw [eye_at (by omega) (by omega), mul_ite, mul_one, mul_zero]
    by_cases he : b.val / 16 = (d.val - 1024) / 64
    · simp only [he, if_true]
    · simp only [he, if_false, EReal.coe_zero]

/-- The windows' block indices at every point of the grid. -/
theorem places : ∀ t : Fin cfg0.N, win0_0.index t = ![t.val % 64, t.val / 64] ∧ win0_1.index t = ![t.val / 64, 0, 0] ∧ win0_2.index t = ![t.val / 64, 0, 0]
    ∧ win0_3.index t = ![0, t.val / 64] ∧ win0_4.index t = ![t.val / 64, 0, 0] ∧ win0_5.index t = ![t.val / 64, 0, 0] ∧ win0_6.index t = ![t.val / 64, 0, 0]
    ∧ win0_7.index t = ![t.val / 64, 0, 0] :=
  (by decide +kernel : ∀ t : Fin grid0.N, _)

end Cert.ScanIdeal.Value
end
-- ==== Proof.Scan.Entry.lean ====
module

public import proofs.«01_k».proof.Proof.Scan.Host

@[expose] public section
set_option maxRecDepth 16384
noncomputable section
open Idealize.ShloMosaic Idealize.ShloMosaic.TcCoe Idealize.SL.Sem
open Idealize.ShloMosaic.Pipeline (Dat)

/-! The blocks the grid points read are blocks of the prepared arrays. -/

namespace Cert.ScanIdeal.Value
open Cert.ScanIdeal Cert.ScanIdeal.Gen
open Cert.Scan (Par)
variable {m : (ℓ : Loc nD τ sig) → Buf (Elt Ideal) ℓ} {q : Par} {c : Dev nD}

theorem lt512 (t : Fin cfg0.N) : t.val < 512 := lt_of_lt_of_eq t.isLt (show cfg0.N = 512 from N_0)

/-- An index of a three-dimensional array whose coordinates are known. -/
theorem at3 {n0 n1 n2 : ℕ} (i : (⟨3, ![n0, n1, n2]⟩ : Shape).Idx) (a : Fin n0) (b : Fin n1) (d : Fin n2)
    (h0 : (i 0).val = a.val) (h1 : (i 1).val = b.val) (h2 : (i 2).val = d.val) : i = ix3 a b d := by
  funext k
  fin_cases k
  · exact Fin.ext h0
  · exact Fin.ext h1
  · exact Fin.ext h2

/-- … and of a two-dimensional one. -/
theorem at2 {n0 n1 : ℕ} (i : (⟨2, ![n0, n1]⟩ : Shape).Idx) (a : Fin n0) (b : Fin n1)
    (h0 : (i 0).val = a.val) (h1 : (i 1).val = b.val) : i = ix2 a b := by
  funext k
  fin_cases k
  · exact Fin.ext h0
  · exact Fin.ext h1

set_option maxHeartbeats 1000000 in
theorem hx_at (h : Ins m q c) (t : Fin cfg0.N) :
    ∀ y : S512x256.Idx, iblk m c 0 t y = ((q.x (512 * (t.val % 64) + (y 0).val) (256 * (t.val / 64) + (y 1).val) : ℝ) : EReal) := by
  have ht := lt512 t
  have hg : t.val / 64 < 8 := by omega
  have p0 := (places t).1
  intro y
  have b0 : (y 0).val < 512 := (y 0).isLt
  have b1 : (y 1).val < 256 := (y 1).isLt
  have e0 : (((cfg0.win 0).blk t).view.emb y 0).val = win0_0.index t (0 : Fin 2) * 512 + 1 * (y 0).val := rfl
  have e1 : (((cfg0.win 0).blk t).view.emb y 1).val = win0_0.index t (1 : Fin 2) * 256 + 1 * (y 1).val := rfl
  rw [p0] at e0 e1
  replace e0 : _ = (t.val % 64) * 512 + 1 * (y 0).val := e0
  replace e1 : _ = (t.val / 64) * 256 + 1 * (y 1).val := e1
  exact (congrArg (V m c main_arg0) (at2 _ ⟨512 * (t.val % 64) + (y 0).val, by omega⟩ ⟨256 * (t.val / 64) + (y 1).val, by omega⟩
    (e0.trans (by show _ = 512 * (t.val % 64) + (y 0).val; omega)) (e1.trans (by show _ = 256 * (t.val / 64) + (y 1).val; omega)))).trans (w0 h _ _)

set_option maxHeartbeats 1000000 in
theorem hb_at (h : Ins m q c) (t : Fin cfg0.N) :
    ∀ y : S1x256x2048.Idx, iblk m c 1 t y = ((if (y 2).val < 1024
    then (if (y 1).val / 16 = (y 2).val / 64 then q.bR ((t.val / 64) * 16 + (y 2).val / 64) ((y 2).val % 64) ((y 1).val % 16) else 0)
    else (if (y 1).val / 16 = ((y 2).val - 1024) / 64 then q.bI ((t.val / 64) * 16 + ((y 2).val - 1024) / 64) (((y 2).val - 1024) % 64) ((y 1).val % 16) else 0) : ℝ) : EReal) := by
  have ht := lt512 t
  have hg : t.val / 64 < 8 := by omega
  have p1 := (places t).2.1
  intro y
  have b0 : (y 0).val < 1 := (y 0).isLt
  have e0 : (((cfg0.win 1).blk t).view.emb y 0).val = win0_1.index t (0 : Fin 3) * 1 + 1 * (y 0).val := rfl
  have e1 : (((cfg0.win 1).blk t).view.emb y 1).val = win0_1.index t (1 : Fin 3) * 256 + 1 * (y 1).val := rfl
  have e2 : (((cfg0.win 1).blk t).view.emb y 2).val = win0_1.index t (2 : Fin 3) * 2048 + 1 * (y 2).val := rfl
  rw [p1] at e0 e1 e2
  replace e0 : _ = (t.val / 64) * 1 + 1 * (y 0).val := e0
  replace e1 : _ = 0 * 256 + 1 * (y 1).val := e1
  replace e2 : _ = 0 * 2048 + 1 * (y 2).val := e2
  exact (congrArg (V m c main_v77) (at3 _ ⟨t.val / 64, hg⟩ (y 1) (y 2)
    (e0.trans (by show _ = t.val / 64; omega)) (e1.trans (by omega)) (e2.trans (by omega)))).trans (w1 h ⟨t.val / 64, hg⟩ (y 1) (y 2))

set_option maxHeartbeats 1000000 in
theorem hc_at (h : Ins m q c) (t : Fin cfg0.N) :
    ∀ y : S1x2048x256.Idx, iblk m c 2 t y = (if (y 1).val < 1024
    then (if (y 1).val / 64 = (y 2).val / 16 then q.cr ((t.val / 64) * 16 + (y 2).val / 16) ((y 2).val % 16) ((y 1).val % 64) else 0)
    else (if ((y 1).val - 1024) / 64 = (y 2).val / 16 then -(q.ci ((t.val / 64) * 16 + (y 2).val / 16) ((y 2).val % 16) (((y 1).val - 1024) % 64) : EReal) else 0) : EReal) := by
  have ht := lt512 t
  have hg : t.val / 64 < 8 := by omega
  have p2 := (places t).2.2.1
  intro y
  have b0 : (y 0).val < 1 := (y 0).isLt
  have e0 : (((cfg0.win 2).blk t).view.emb y 0).val = win0_2.index t (0 : Fin 3) * 1 + 1 * (y 0).val := rfl
  have e1 : (((cfg0.win 2).blk t).view.emb y 1).val = win0_2.index t (1 : Fin 3) * 2048 + 1 * (y 1).val := rfl
  have e2 : (((cfg0.win 2).blk t).view.emb y 2).val = win0_2.index t (2 : Fin 3) * 256 + 1 * (y 2).val := rfl
  rw [p2] at e0 e1 e2
  replace e0 : _ = (t.val / 64) * 1 + 1 * (y 0).val := e0
  replace e1 : _ = 0 * 2048 + 1 * (y 1).val := e1
  replace e2 : _ = 0 * 256 + 1 * (y 2).val := e2
  exact (congrArg (V m c main_v96) (at3 _ ⟨t.val / 64, hg⟩ (y 1) (y 2)
    (e0.trans (by show _ = t.val / 64; omega)) (e1.trans (by omega)) (e2.trans (by omega)))).trans (w2 h ⟨t.val / 64, hg⟩ (y 1) (y 2))

set_option maxHeartbeats 1000000 in
theorem hd_at (h : Ins m q c) (t : Fin cfg0.N) :
    ∀ y : S1x256.Idx, iblk m c 3 t y = q.d (256 * (t.val / 64) + (y 1).val) := by
  have ht := lt512 t
  have hg : t.val / 64 < 8 := by omega
  have p3 := (places t).2.2.2.1
  intro y
  have b0 : (y 0).val < 1 := (y 0).isLt
  have b1 : (y 1).val < 256 := (y 1).isLt
  have e0 : (((cfg0.win 3).blk t).view.emb y 0).val = win0_3.index t (0 : Fin 2) * 1 + 1 * (y 0).val := rfl
  have e1 : (((cfg0.win 3).blk t).view.emb y 1).val = win0_3.index t (1 : Fin 2) * 256 + 1 * (y 1).val := rfl
  rw [p3] at e0 e1
  replace e0 : _ = 0 * 1 + 1 * (y 0).val := e0
  replace e1 : _ = (t.val / 64) * 256 + 1 * (y 1).val := e1
  exact (congrArg (V m c main_v118) (at2 _ (0 : Fin 1) ⟨256 * (t.val / 64) + (y 1).val, by omega⟩
    (e0.trans (by show _ = 0; omega)) (e1.trans (by show _ = 256 * (t.val / 64) + (y 1).val; omega)))).trans (w3 h _ _)

set_option maxHeartbeats 1000000 in
theorem hA_at (h : Ins m q c) (t : Fin cfg0.N) :
    ∀ y : S1x8x1024.Idx, iblk m c 4 t y = ((if (y 1).val < 4 then q.ar ((t.val / 64) * 16 + (y 2).val / 64) ((y 2).val % 64) else
      q.ar ((t.val / 64) * 16 + (y 2).val / 64) ((y 2).val % 64) * q.ar ((t.val / 64) * 16 + (y 2).val / 64) ((y 2).val % 64)
        - q.ai ((t.val / 64) * 16 + (y 2).val / 64) ((y 2).val % 64) * q.ai ((t.val / 64) * 16 + (y 2).val / 64) ((y 2).val % 64) : ℝ) : EReal) := by
  have ht := lt512 t
  have hg : t.val / 64 < 8 := by omega
  have p4 := (places t).2.2.2.2.1
  intro y
  have b0 : (y 0).val < 1 := (y 0).isLt
  have e0 : (((cfg0.win 4).blk t).view.emb y 0).val = win0_4.index t (0 : Fin 3) * 1 + 1 * (y 0).val := rfl
  have e1 : (((cfg0.win 4).blk t).view.emb y 1).val = win0_4.index t (1 : Fin 3) * 8 + 1 * (y 1).val := rfl
  have e2 : (((cfg0.win 4).blk t).view.emb y 2).val = win0_4.index t (2 : Fin 3) * 1024 + 1 * (y 2).val := rfl
  rw [p4] at e0 e1 e2
  replace e0 : _ = (t.val / 64) * 1 + 1 * (y 0).val := e0
  replace e1 : _ = 0 * 8 + 1 * (y 1).val := e1
  replace e2 : _ = 0 * 1024 + 1 * (y 2).val := e2
  exact (congrArg (V m c main_v102) (at3 _ ⟨t.val / 64, hg⟩ (y 1) (y 2)
    (e0.trans (by show _ = t.val / 64; omega)) (e1.trans (by omega)) (e2.trans (by omega)))).trans (w4 h ⟨t.val / 64, hg⟩ (y 1) (y 2))

set_option maxHeartbeats 1000000 in
theorem hB_at (h : Ins m q c) (t : Fin cfg0.N) :
    ∀ y : S1x8x1024.Idx, iblk m c 5 t y = ((if (y 1).val < 4 then q.ai ((t.val / 64) * 16 + (y 2).val / 64) ((y 2).val % 64) else
      2 * q.ar ((t.val / 64) * 16 + (y 2).val / 64) ((y 2).val % 64) * q.ai ((t.val / 64) * 16 + (y 2).val / 64) ((y 2).val % 64) : ℝ) : EReal) := by
  have ht := lt512 t
  have hg : t.val / 64 < 8 := by omega
  have p5 := (places t).2.2.2.2.2.1
  intro y
  have b0 : (y 0).val < 1 := (y 0).isLt
  have e0 : (((cfg0.win 5).blk t).view.emb y 0).val = win0_5.index t (0 : Fin 3) * 1 + 1 * (y 0).val := rfl
  have e1 : (((cfg0.win 5).blk t).view.emb y 1).val = win0_5.index t (1 : Fin 3) * 8 + 1 * (y 1).val := rfl
  have e2 : (((cfg0.win 5).blk t).view.emb y 2).val = win0_5.index t (2 : Fin 3) * 1024 + 1 * (y 2).val := rfl
  rw [p5] at e0 e1 e2
  replace e0 : _ = (t.val / 64) * 1 + 1 * (y 0).val := e0
  replace e1 : _ = 0 * 8 + 1 * (y 1).val := e1
  replace e2 : _ = 0 * 1024 + 1 * (y 2).val := e2
  exact (congrArg (V m c main_v107) (at3 _ ⟨t.val / 64, hg⟩ (y 1) (y 2)
    (e0.trans (by show _ = t.val / 64; omega)) (e1.trans (by omega)) (e2.trans (by omega)))).trans (w5 h ⟨t.val / 64, hg⟩ (y 1) (y 2))

set_option maxHeartbeats 1000000 in
theorem hC_at (h : Ins m q c) (t : Fin cfg0.N) :
    ∀ y : S1x8x1024.Idx, iblk m c 6 t y = ((if (y 1).val < 4 then 0 else q.ar ((t.val / 64) * 16 + (y 2).val / 64) ((y 2).val % 64) : ℝ) : EReal) := by
  have ht := lt512 t
  have hg : t.val / 64 < 8 := by omega
  have p6 := (places t).2.2.2.2.2.2.1
  intro y
  have b0 : (y 0).val < 1 := (y 0).isLt
  have e0 : (((cfg0.win 6).blk t).view.emb y 0).val = win0_6.index t (0 : Fin 3) * 1 + 1 * (y 0).val := rfl
  have e1 : (((cfg0.win 6).blk t).view.emb y 1).val = win0_6.index t (1 : Fin 3) * 8 + 1 * (y 1).val := rfl
  have e2 : (((cfg0.win 6).blk t).view.emb y 2).val = win0_6.index t (2 : Fin 3) * 1024 + 1 * (y 2).val := rfl
  rw [p6] at e0 e1 e2
  replace e0 : _ = (t.val / 64) * 1 + 1 * (y 0).val := e0
  replace e1 : _ = 0 * 8 + 1 * (y 1).val := e1
  replace e2 : _ = 0 * 1024 + 1 * (y 2).val := e2
  exact (congrArg (V m c main_v112) (at3 _ ⟨t.val / 64, hg⟩ (y 1) (y 2)
    (e0.trans (by show _ = t.val / 64; omega)) (e1.trans (by omega)) (e2.trans (by omega)))).trans (w6 h ⟨t.val / 64, hg⟩ (y 1) (y 2))

set_option maxHeartbeats 1000000 in
theorem hD_at (h : Ins m q c) (t : Fin cfg0.N) :
    ∀ y : S1x8x1024.Idx, iblk m c 7 t y = ((if (y 1).val < 4 then 0 else q.ai ((t.val / 64) * 16 + (y 2).val / 64) ((y 2).val % 64) : ℝ) : EReal) := by
  have ht := lt512 t
  have hg : t.val / 64 < 8 := by omega
  have p7 := (places t).2.2.2.2.2.2.2
  intro y
  have b0 : (y 0).val < 1 := (y 0).isLt
  have e0 : (((cfg0.win 7).blk t).view.emb y 0).val = win0_7.index t (0 : Fin 3) * 1 + 1 * (y 0).val := rfl
  have e1 : (((cfg0.win 7).blk t).view.emb y 1).val = win0_7.index t (1 : Fin 3) * 8 + 1 * (y 1).val := rfl
  have e2 : (((cfg0.win 7).blk t).view.emb y 2).val = win0_7.index t (2 : Fin 3) * 1024 + 1 * (y 2).val := rfl
  rw [p7] at e0 e1 e2
  replace e0 : _ = (t.val / 64) * 1 + 1 * (y 0).val := e0
  replace e1 : _ = 0 * 8 + 1 * (y 1).val := e1
  replace e2 : _ = 0 * 1024 + 1 * (y 2).val := e2
  exact (congrArg (V m c main_v117) (at3 _ ⟨t.val / 64, hg⟩ (y 1) (y 2)
    (e0.trans (by show _ = t.val / 64; omega)) (e1.trans (by omega)) (e2.trans (by omega)))).trans (w7 h ⟨t.val / 64, hg⟩ (y 1) (y 2))

/-- Every grid point's windows hold the recurrence's data. -/
theorem holds (h : Ins m q c) (t : Fin cfg0.N) : Holds m q (t.val / 64) (t.val % 64) c t :=
  ⟨hx_at h t, hb_at h t, hc_at h t, hd_at h t, hA_at h t, hB_at h t, hC_at h t, hD_at h t⟩

end Cert.ScanIdeal.Value
end
-- ==== Proof.Scan.Grid.lean ====
module

public import proofs.«01_k».proof.Proof.Scan.Sub

@[expose] public section
set_option maxRecDepth 16384
noncomputable section
open Idealize.ShloMosaic Idealize.ShloMosaic.TcCoe Idealize.SL.Sem
open Idealize.ShloMosaic.Pipeline (Dat)

/-! From grid point to grid point, and the array the grid leaves. -/

namespace Cert.ScanIdeal.Value
open Cert.ScanIdeal Cert.ScanIdeal.Gen
open Cert.Scan (Par gel)
variable {m : (ℓ : Loc nD τ sig) → Buf (Elt Ideal) ℓ} {q : Par} {c : Dev nD}

/-- A block made of sub-blocks, at an index. -/
theorem pieces_at (o : ℕ → FVec Ideal S128x256 .bf16) (f : ℕ → ℕ → EReal)
    (ho : ∀ s < 4, ∀ z : S128x256.Idx, o s z = f (128 * s + (z 0).val) (z 1).val) (y : S512x256.Idx) :
    pieces o y = f (y 0).val (y 1).val := by
  unfold pieces
  canon_tiles x h
  · refine (ho 3 (by decide) x).trans (congrArg₂ f ?_ ?_) <;> omega
  · refine (ho 2 (by decide) x).trans (congrArg₂ f ?_ ?_) <;> omega
  · refine (ho 1 (by decide) x).trans (congrArg₂ f ?_ ?_) <;> omega
  · refine (ho 0 (by decide) x).trans (congrArg₂ f ?_ ?_) <;> omega

/-- What is true after a grid point: the state carried on, and the block of output. -/
def Left (q : Par) (gb n : ℕ) (o : Vec Ideal S512x256 .bf16 × Vec Ideal S8x1024 .f32 × Vec Ideal S8x1024 .f32) : Prop :=
  IsP q gb (128 * n + 128) o.2 ∧ ∀ y : S512x256.Idx, o.1 y = gel (q.y (512 * n + (y 0).val) (gb * 16 + (y 1).val / 16) ((y 1).val % 16))

theorem left_of {gb n : ℕ} {t : Fin cfg0.N} (h : Holds m q gb n c t) {p : Rows × Rows} (hp : IsP q gb (128 * n) p)
    {o : Vec Ideal S512x256 .bf16 × Vec Ideal S8x1024 .f32 × Vec Ideal S8x1024 .f32}
    (h1 : o.1 = pieces fun s => outAt m c t s (carryAt m c t p s)) (h2 : o.2.1 = (carryAt m c t p 4).1) (h3 : o.2.2 = (carryAt m c t p 4).2) :
    Left q gb n o := by
  refine ⟨?_, fun y => ?_⟩
  · have e : o.2 = carryAt m c t p 4 := Prod.ext h2 h3
    rw [e]
    exact isP_carry h hp 4 (by decide)
  · rw [h1]
    refine pieces_at _ (fun a b => gel (q.y (512 * n + a) (gb * 16 + b / 16) (b % 16))) (fun s hs z => ?_) y
    have e : 512 * n + (128 * s + (z 0).val) = 4 * (128 * n + 32 * s) + (z 0).val := by omega
    rw [e]
    exact out_at h hs (isP_carry h hp s (by omega)) z

/-- After every point of the grid. -/
theorem left_all (H : ∀ t : Fin cfg0.N, Holds m q (t.val / 64) (t.val % 64) c t) :
    ∀ (n : ℕ) (hn : n < cfg0.N), Left q (n / 64) (n % 64) (outsAt0 m c n hn)
  | 0, hn => by
    rw [outsAt0_zero]
    exact left_of (H ⟨0, hn⟩) (isP_zero q _) (out_A m c ⟨0, hn⟩ _ rfl) (reset_re m c ⟨0, hn⟩ _ rfl) (reset_im m c ⟨0, hn⟩ _ rfl)
  | n + 1, hn => by
    have ih := left_all H n (Nat.lt_of_succ_lt hn)
    rw [outsAt0_succ]
    by_cases h0 : (n + 1) % 64 = 0
    · refine left_of (H ⟨n + 1, hn⟩) (p := (k0_pay2, k0_pay3)) ?_ (out_A m c ⟨n + 1, hn⟩ _ h0) (reset_re m c ⟨n + 1, hn⟩ _ h0) (reset_im m c ⟨n + 1, hn⟩ _ h0)
      show IsP q ((n + 1) / 64) (128 * ((n + 1) % 64)) _
      rw [h0]
      exact isP_zero q _
    · refine left_of (H ⟨n + 1, hn⟩) ?_ (out_B m c ⟨n + 1, hn⟩ _ h0) (state_re m c ⟨n + 1, hn⟩ _ h0) (state_im m c ⟨n + 1, hn⟩ _ h0)
      show IsP q ((n + 1) / 64) (128 * ((n + 1) % 64)) _
      have e1 : (n + 1) / 64 = n / 64 := by omega
      have e2 : 128 * ((n + 1) % 64) = 128 * (n % 64) + 128 := by omega
      rw [e1, e2]
      exact ih.1

/-- The array the grid leaves. -/
theorem array_at (H : ∀ t : Fin cfg0.N, Holds m q (t.val / 64) (t.val % 64) c t) (i : S32768x2048.Idx) :
    G8 m c i = gel (q.y (i 0).val ((i 1).val / 16) ((i 1).val % 16)) := by
  have h0 : (i 0).val < 32768 := (i 0).isLt
  have h1 : (i 1).val < 2048 := (i 1).isLt
  have hN : cfg0.N = 512 := N_0
  have hp : pt8Of i < cfg0.N := by rw [hN]; show 1 * ((i 0).val / 512 - 0) + 64 * ((i 1).val / 256 - 0) < 512; omega
  unfold G8
  rw [dif_pos hp, ← outsAt0_sweep m c (pt8Of i) hp]
  refine ((left_all H _ hp).2 (loc8Of i)).trans (congrArg gel ?_)
  have ep : pt8Of i = (i 0).val / 512 + 64 * ((i 1).val / 256) := by show 1 * ((i 0).val / 512 - 0) + 64 * ((i 1).val / 256 - 0) = _; omega
  rw [ep]
  show q.y (512 * (((i 0).val / 512 + 64 * ((i 1).val / 256)) % 64) + (i 0).val % 512) (((i 0).val / 512 + 64 * ((i 1).val / 256)) / 64 * 16 + (i 1).val % 256 / 16) ((i 1).val % 256 % 16) = _
  have e1 : 512 * (((i 0).val / 512 + 64 * ((i 1).val / 256)) % 64) + (i 0).val % 512 = (i 0).val := by omega
  have e2 : ((i 0).val / 512 + 64 * ((i 1).val / 256)) / 64 * 16 + (i 1).val % 256 / 16 = (i 1).val / 16 := by omega
  have e3 : (i 1).val % 256 % 16 = (i 1).val % 16 := by omega
  rw [e1, e2, e3]

end Cert.ScanIdeal.Value
end
-- ==== Proof.Scan.Ref.lean ====
module

public import proofs.«01_k».proof.Proof.Gen.ScanRefIdeal.Run
public import proofs.«01_k».proof.Proof.Scan.Args
public import proofs.«01_k».proof.Proof.Scan.Sub
public import Idealize.ShloMosaic.Lib.Pipeline.ValueKit
public import Idealize.ShloMosaic.Lib.StableHlo.ReadAt

@[expose] public section
set_option maxRecDepth 16384
noncomputable section
open Idealize.ShloMosaic Idealize.ShloMosaic.TcCoe Idealize.SL Idealize.SL.Sem

/-! The reference's loop computes the recurrence. -/

namespace Cert.ScanRefIdeal.Value
open Idealize.ShloMosaic.StableHlo
open Cert.ScanRefIdeal Cert.ScanRefIdeal.Gen
open Cert.Scan (Par Args gel)
variable {W : Valuation τ sig (Elt Ideal)} {q : Par} {k : ℕ}

theorem start0 (hk : k < 8192) : (BitVec.ofNat 32 k).toInt = (k : Int) := by
  have e : (BitVec.ofNat 32 k).toNat = k := by
    rw [BitVec.toNat_ofNat]
    exact Nat.mod_eq_of_lt (by omega)
  rw [BitVec.toInt_eq_toNat_of_lt (by omega), e]

/-- An index of a four-dimensional array whose coordinates are known. -/
theorem at4 {n0 n1 n2 n3 : ℕ} (i : (⟨4, ![n0, n1, n2, n3]⟩ : Shape).Idx) (a : Fin n0) (b : Fin n1) (d : Fin n2) (e : Fin n3)
    (h0 : (i 0).val = a.val) (h1 : (i 1).val = b.val) (h2 : (i 2).val = d.val) (h3 : (i 3).val = e.val) : i = ix4 a b d e := by
  funext k
  fin_cases k
  · exact Fin.ext h0
  · exact Fin.ext h1
  · exact Fin.ext h2
  · exact Fin.ext h3

/-- Where trip `k` reads and writes. -/
abbrev startOf (v : (⟨S_, .i32⟩ : BufTy).Contents (Elt Ideal)) : Fin 4 → Int := fun k =>
  (((![v, constantI S_ 32 0#32, constantI S_ 32 0#32, constantI S_ 32 0#32] : Fin 4 → (⟨S_, .i32⟩ : BufTy).Contents (Elt Ideal))) k (Shape.Idx.first h_S_)).toInt

theorem c0 (hk : k < 8192) : Host.clampedStart S8192x4x128x16 S1x4x128x16 rfl (startOf fun _ => BitVec.ofNat 32 k) 0 = k :=
  Host.clampedStart_of_le (s := S8192x4x128x16) (t := S1x4x128x16) rfl _ 0 k (start0 hk) (by show k + 1 ≤ 8192; omega)
theorem c1 : Host.clampedStart S8192x4x128x16 S1x4x128x16 rfl (startOf fun _ => BitVec.ofNat 32 k) 1 = 0 :=
  Host.clampedStart_of_le (s := S8192x4x128x16) (t := S1x4x128x16) rfl _ 1 0 rfl (by decide)
theorem c2 : Host.clampedStart S8192x4x128x16 S1x4x128x16 rfl (startOf fun _ => BitVec.ofNat 32 k) 2 = 0 :=
  Host.clampedStart_of_le (s := S8192x4x128x16) (t := S1x4x128x16) rfl _ 2 0 rfl (by decide)
theorem c3 : Host.clampedStart S8192x4x128x16 S1x4x128x16 rfl (startOf fun _ => BitVec.ofNat 32 k) 3 = 0 :=
  Host.clampedStart_of_le (s := S8192x4x128x16) (t := S1x4x128x16) rfl _ 3 0 rfl (by decide)

/-- What holds before trip `k`. -/
structure Mid (q : Par) (k : ℕ) (W : Valuation τ sig (Elt Ideal)) : Prop where
  v0 : ∀ a b g d, W (Proc.devRef .tc main_v52_0) (ix4 a b g d) = (q.x (a.val * 4 + b.val) (g.val * 16 + d.val) : EReal)
  v1 : ∀ g p, W (Proc.devRef .tc main_v52_1) (ix2 g p) = (q.ar g.val p.val : EReal)
  v2 : ∀ g p, W (Proc.devRef .tc main_v52_2) (ix2 g p) = (q.ai g.val p.val : EReal)
  v3 : ∀ g p d, W (Proc.devRef .tc main_v52_3) (ix3 g p d) = (q.bR g.val p.val d.val : EReal)
  v4 : ∀ g p d, W (Proc.devRef .tc main_v52_4) (ix3 g p d) = (q.bI g.val p.val d.val : EReal)
  v5 : ∀ g d p, W (Proc.devRef .tc main_v52_5) (ix3 g d p) = q.cr g.val d.val p.val
  v6 : ∀ g d p, W (Proc.devRef .tc main_v52_6) (ix3 g d p) = (q.ci g.val d.val p.val : EReal)
  v7 : ∀ g d, W (Proc.devRef .tc main_v52_7) (ix2 g d) = q.d (g.val * 16 + d.val)
  v8 : W (Proc.devRef .tc main_v52_8) = fun _ => BitVec.ofNat 32 k
  v9 : ∀ b g p, W (Proc.devRef .tc main_v52_9) (ix3 b g p) = ((q.H b.val g.val p.val k).1 : EReal)
  v10 : ∀ b g p, W (Proc.devRef .tc main_v52_10) (ix3 b g p) = ((q.H b.val g.val p.val k).2 : EReal)
  v11 : ∀ a b g d, a.val < k → W (Proc.devRef .tc main_v52_11) (ix4 a b g d) = q.y (a.val * 4 + b.val) g.val d.val

/-- The inputs of trip `k`. -/
theorem v68_at (h : Mid q k W) (hk : k < 8192) (b : Fin 4) (g : Fin 128) (d : Fin 16) :
    res_main_while0b_v68 W (ix3 b g d) = (q.x (k * 4 + b.val) (g.val * 16 + d.val) : EReal) := by
  refine Eq.trans ?_ (h.v0 ⟨k, hk⟩ b g d)
  unfold res_main_while0b_v68
  rw [h.v8]
  pointwise []
  refine congrArg (W (Proc.devRef .tc main_v52_0)) (at4 _ ⟨k, hk⟩ b g d ?_ ?_ ?_ ?_)
  · show Host.clampedStart S8192x4x128x16 S1x4x128x16 rfl (startOf fun _ => BitVec.ofNat 32 k) 0 = k
    exact c0 hk
  · show Host.clampedStart S8192x4x128x16 S1x4x128x16 rfl (startOf fun _ => BitVec.ofNat 32 k) 1 + b.val = b.val
    rw [c1, Nat.zero_add]
  · show Host.clampedStart S8192x4x128x16 S1x4x128x16 rfl (startOf fun _ => BitVec.ofNat 32 k) 2 + g.val = g.val
    rw [c2, Nat.zero_add]
  · show Host.clampedStart S8192x4x128x16 S1x4x128x16 rfl (startOf fun _ => BitVec.ofNat 32 k) 3 + d.val = d.val
    rw [c3, Nat.zero_add]

/-- The real state after trip `k`. -/
theorem v78_at (h : Mid q k W) (hk : k < 8192) (b : Fin 4) (g : Fin 128) (p : Fin 64) :
    res_main_while0b_v78 W (ix3 b g p) = ((q.H b.val g.val p.val (k + 1)).1 : EReal) := by
  unfold res_main_while0b_v78
  pointwise []
  simp only [h.v1, h.v2, h.v3, h.v9, h.v10, v68_at h hk, ← EReal.coe_mul, ← EReal.coe_sub, ← EReal.coe_add, ← Cert.Scan.coe_sum]
  rfl

/-- The imaginary state after trip `k`. -/
theorem v88_at (h : Mid q k W) (hk : k < 8192) (b : Fin 4) (g : Fin 128) (p : Fin 64) :
    res_main_while0b_v88 W (ix3 b g p) = ((q.H b.val g.val p.val (k + 1)).2 : EReal) := by
  unfold res_main_while0b_v88
  pointwise []
  simp only [h.v1, h.v2, h.v4, h.v9, h.v10, v68_at h hk, ← EReal.coe_mul, ← EReal.coe_sub, ← EReal.coe_add, ← Cert.Scan.coe_sum]
  rfl

/-- The row of outputs of a trip. -/
def rowOf (W : Valuation τ sig (Elt Ideal)) : FVec Ideal S1x4x128x16 .f32 :=
  (broadcastInDim S1x4x128x16 ![1, 2, 3] bcast_S4x128x16_S1x4x128x16_1_2_3 (addf (subf (transpose S4x128x16 [2, 0, 1] (Host.dotGeneral (φ₁ := .f32) (φ₂ := .f32) dot_S128x16x64_S4x128x64_S128x16x4_2_2_1_0_0_1 none (W (Proc.devRef .tc main_v52_5)) (res_main_while0b_v78 W)) transposes_S128x16x4_S4x128x16_2_0_1) (transpose S4x128x16 [2, 0, 1] (Host.dotGeneral (φ₁ := .f32) (φ₂ := .f32) dot_S128x16x64_S4x128x64_S128x16x4_2_2_1_0_0_1 none (W (Proc.devRef .tc main_v52_6)) (res_main_while0b_v88 W)) transposes_S128x16x4_S4x128x16_2_0_1)) (mulf (broadcastInDim S4x128x16 ![0, 1, 2] bcast_S1x128x16_S4x128x16_0_1_2 (broadcastInDim S1x128x16 ![1, 2] bcast_S128x16_S1x128x16_1_2 (W (Proc.devRef .tc main_v52_7)))) (res_main_while0b_v68 W))))

theorem row_at (h : Mid q k W) (hk : k < 8192) (z : Fin 1) (b : Fin 4) (g : Fin 128) (d : Fin 16) :
    rowOf W (ix4 z b g d) = q.y (k * 4 + b.val) g.val d.val := by
  unfold rowOf
  pointwise []
  simp only [h.v5, h.v6, h.v7, v68_at h hk, v78_at h hk, v88_at h hk]
  have hb : b.val < 4 := b.isLt
  have e1 : (k * 4 + b.val) % 4 = b.val := by omega
  have e2 : (k * 4 + b.val) / 4 + 1 = k + 1 := by omega
  unfold Par.y
  rw [e1, e2]
  refine congrArg₂ (· + ·) (congrArg₂ (· - ·) (Finset.sum_congr rfl fun _ _ => mul_comm _ _) (Finset.sum_congr rfl fun _ _ => mul_comm _ _)) rfl

/-- The outputs after trip `k`. -/
theorem v11_at (h : Mid q k W) (hk : k < 8192) (a : Fin 8192) (b : Fin 4) (g : Fin 128) (d : Fin 16) (ha : a.val < k + 1) :
    step_main_v52_11 W (ix4 a b g d) = q.y (a.val * 4 + b.val) g.val d.val := by
  show Host.dynamicUpdateSlice (W (Proc.devRef .tc main_v52_11)) (rowOf W) (startOf (W (Proc.devRef .tc main_v52_8))) updateFits_S8192x4x128x16_S1x4x128x16 (ix4 a b g d) = _
  rw [h.v8]
  refine (Host.dynamicUpdateSlice_apply (s := S8192x4x128x16) (u := S1x4x128x16) (W (Proc.devRef .tc main_v52_11)) (rowOf W) (startOf fun _ => BitVec.ofNat 32 k) updateFits_S8192x4x128x16_S1x4x128x16 (ix4 a b g d)).trans ?_
  by_cases hak : a.val = k
  · refine (dif_pos ?_).trans ?_
    · intro j
      fin_cases j
      · show Host.clampedStart S8192x4x128x16 S1x4x128x16 rfl (startOf fun _ => BitVec.ofNat 32 k) 0 ≤ a.val ∧ a.val < Host.clampedStart S8192x4x128x16 S1x4x128x16 rfl (startOf fun _ => BitVec.ofNat 32 k) 0 + 1
        rw [c0 hk]; omega
      · show Host.clampedStart S8192x4x128x16 S1x4x128x16 rfl (startOf fun _ => BitVec.ofNat 32 k) 1 ≤ b.val ∧ b.val < Host.clampedStart S8192x4x128x16 S1x4x128x16 rfl (startOf fun _ => BitVec.ofNat 32 k) 1 + 4
        rw [c1]; omega
      · show Host.clampedStart S8192x4x128x16 S1x4x128x16 rfl (startOf fun _ => BitVec.ofNat 32 k) 2 ≤ g.val ∧ g.val < Host.clampedStart S8192x4x128x16 S1x4x128x16 rfl (startOf fun _ => BitVec.ofNat 32 k) 2 + 128
        rw [c2]; omega
      · show Host.clampedStart S8192x4x128x16 S1x4x128x16 rfl (startOf fun _ => BitVec.ofNat 32 k) 3 ≤ d.val ∧ d.val < Host.clampedStart S8192x4x128x16 S1x4x128x16 rfl (startOf fun _ => BitVec.ofNat 32 k) 3 + 16
        rw [c3]; omega
    · refine (congrArg (rowOf W) (at4 _ (0 : Fin 1) b g d ?_ ?_ ?_ ?_)).trans ((row_at h hk 0 b g d).trans (by rw [hak]))
      · show a.val - Host.clampedStart S8192x4x128x16 S1x4x128x16 rfl (startOf fun _ => BitVec.ofNat 32 k) 0 = 0
        rw [c0 hk]; omega
      · show b.val - Host.clampedStart S8192x4x128x16 S1x4x128x16 rfl (startOf fun _ => BitVec.ofNat 32 k) 1 = b.val
        rw [c1]; omega
      · show g.val - Host.clampedStart S8192x4x128x16 S1x4x128x16 rfl (startOf fun _ => BitVec.ofNat 32 k) 2 = g.val
        rw [c2]; omega
      · show d.val - Host.clampedStart S8192x4x128x16 S1x4x128x16 rfl (startOf fun _ => BitVec.ofNat 32 k) 3 = d.val
        rw [c3]; omega
  · refine (dif_neg fun hin => ?_).trans (h.v11 a b g d (by omega))
    have h0 : Host.clampedStart S8192x4x128x16 S1x4x128x16 rfl (startOf fun _ => BitVec.ofNat 32 k) 0 ≤ a.val := (hin 0).1
    rw [c0 hk] at h0
    omega

/-- A trip goes on to the next. -/
theorem mid_step (h : Mid q k W) (hk : k < 8192) : Mid q (k + 1) (STEP W) where
  v0 a b g d := by rw [STEP_main_v52_0]; exact h.v0 a b g d
  v1 g p := by rw [STEP_main_v52_1]; exact h.v1 g p
  v2 g p := by rw [STEP_main_v52_2]; exact h.v2 g p
  v3 g p d := by rw [STEP_main_v52_3]; exact h.v3 g p d
  v4 g p d := by rw [STEP_main_v52_4]; exact h.v4 g p d
  v5 g d p := by rw [STEP_main_v52_5]; exact h.v5 g d p
  v6 g d p := by rw [STEP_main_v52_6]; exact h.v6 g d p
  v7 g d := by rw [STEP_main_v52_7]; exact h.v7 g d
  v8 := by
    rw [STEP_main_v52_8]
    show addi (W (Proc.devRef .tc main_v52_8)) (constantI S_ 32 1#32) = _
    rw [h.v8]
    funext i
    show BitVec.ofNat 32 k + 1#32 = BitVec.ofNat 32 (k + 1)
    rw [BitVec.ofNat_add]
  v9 b g p := by rw [STEP_main_v52_9]; exact v78_at h hk b g p
  v10 b g p := by rw [STEP_main_v52_10]; exact v88_at h hk b g p
  v11 a b g d ha := by rw [STEP_main_v52_11]; exact v11_at h hk a b g d ha

theorem mid_iter (h : Mid q 0 W) : ∀ k ≤ 8192, Mid q k (STEP^[k] W)
  | 0, _ => h
  | k + 1, hk => by
    rw [Function.iterate_succ_apply']
    exact mid_step (mid_iter h k (by omega)) (by omega)

/-- The result after the loop. -/
theorem out_of (h : Mid q 8192 W) (i : Fin 32768) (j : Fin 2048) :
    out_main_v67 W (ix2 i j) = gel (q.y i.val (j.val / 16) (j.val % 16)) := by
  have e : W (Proc.devRef .tc main_v52_11) (ix4 ⟨i.val / 4, by omega⟩ ⟨i.val % 4, by omega⟩ ⟨j.val / 16, by omega⟩ ⟨j.val % 16, by omega⟩)
      = q.y i.val (j.val / 16) (j.val % 16) := by
    refine (h.v11 _ _ _ _ (by show i.val / 4 < 8192; omega)).trans ?_
    show q.y (i.val / 4 * 4 + i.val % 4) (j.val / 16) (j.val % 16) = _
    rw [Nat.div_add_mod' i.val 4]
  unfold out_main_v67
  pointwise []
  rw [e]
  unfold gel
  rw [mul_comm (q.y i.val (j.val / 16) (j.val % 16) * q.y i.val (j.val / 16) (j.val % 16)) (q.y i.val (j.val / 16) (j.val % 16))]

variable (m : (ℓ : Loc nD τ sig) → Buf (Elt Ideal) ℓ)

/-- The argument arrays of a device hold the inputs. -/
abbrev Ins (q : Par) (c : Dev nD) : Prop :=
  Args q (launchContents m c (Proc.devRef .tc main_arg0)) (launchContents m c (Proc.devRef .tc main_arg1)) (launchContents m c (Proc.devRef .tc main_arg2))
    (launchContents m c (Proc.devRef .tc main_arg3)) (launchContents m c (Proc.devRef .tc main_arg4)) (launchContents m c (Proc.devRef .tc main_arg5))
    (launchContents m c (Proc.devRef .tc main_arg6)) (launchContents m c (Proc.devRef .tc main_arg7)) (launchContents m c (Proc.devRef .tc main_arg8))

/-- The loop's entry. -/
theorem mid_entry {c : Dev nD} (h : Ins m q c) : Mid q 0 (entryContents preI m c) where
  v0 a b g d := by
    simp only [entryContents, afterL_cons, afterL_nil]
    after_reads_at
    rw [id_eq]
    pointwise []
    simp only [h.x]
  v1 g p := by
    simp only [entryContents, afterL_cons, afterL_nil]
    after_reads_at
    rw [id_eq]
    pointwise []
    simp only [h.lr, h.li, h.ldt, Par.e_ar]
  v2 g p := by
    simp only [entryContents, afterL_cons, afterL_nil]
    after_reads_at
    rw [id_eq]
    pointwise []
    simp only [h.lr, h.li, h.ldt, Par.e_ai]
  v3 g p d := by
    simp only [entryContents, afterL_cons, afterL_nil]
    after_reads_at
    rw [id_eq]
    pointwise []
    simp only [h.lr, h.li, h.br, h.bi, h.ldt, Par.e_ar, Par.e_ai, Par.e_den, Par.e_cfr q h.den, Par.e_cfi q h.den, Par.e_bR]
  v4 g p d := by
    simp only [entryContents, afterL_cons, afterL_nil]
    after_reads_at
    rw [id_eq]
    pointwise []
    simp only [h.lr, h.li, h.br, h.bi, h.ldt, Par.e_ar, Par.e_ai, Par.e_den, Par.e_cfr q h.den, Par.e_cfi q h.den, Par.e_bI]
  v5 g d p := by
    simp only [entryContents, afterL_cons, afterL_nil]
    after_reads_at
    rw [id_eq]
    pointwise []
    simp only [h.cr]
  v6 g d p := by
    simp only [entryContents, afterL_cons, afterL_nil]
    after_reads_at
    rw [id_eq]
    pointwise []
    simp only [h.ci]
  v7 g d := by
    simp only [entryContents, afterL_cons, afterL_nil]
    after_reads_at
    rw [id_eq]
    pointwise []
    simp only [h.dd]
  v8 := ctr_entry m c
  v9 b g p := by
    simp only [entryContents, afterL_cons, afterL_nil]
    after_reads_at
    rw [id_eq]
    pointwise []
    simp [Par.H]
  v10 b g p := by
    simp only [entryContents, afterL_cons, afterL_nil]
    after_reads_at
    rw [id_eq]
    pointwise []
    simp [Par.H]
  v11 a b g d ha := absurd ha (Nat.not_lt_zero _)

/-- The reference's result is the layer's output. -/
theorem result_at {c : Dev nD} (h : Ins m q c) (i : Fin 32768) (j : Fin 2048) :
    out_main_v67 (STEP^[8192] (entryContents preI m c)) (ix2 i j) = gel (q.y i.val (j.val / 16) (j.val % 16)) :=
  out_of (mid_iter (mid_entry m h) 8192 (Nat.le_refl _)) i j

end Cert.ScanRefIdeal.Value
end
-- ==== Proof.Scan.Pre.lean ====
module

public import proofs.«01_k».proof.Pre_scan_pre
public import proofs.«01_k».proof.Proof.Scan.Args
public import Idealize.ShloMosaic.Lib.ReduceAll
public import Idealize.ShloMosaic.Lib.Pipeline.ValueKit

@[expose] public section
noncomputable section
open Idealize.ShloMosaic

/-! What the precondition says of the arrays, and the inputs it gives. -/

namespace Cert.Scan

/-- The single pattern of infinity. -/
theorem inf_bits : Ideal.ofBits .f32 0x7F800000#32 = ⊤ := by
  simp [Ideal.ofBits, Ideal.ieee]

/-- The single pattern of zero. -/
theorem zero_bits : Ideal.ofBits .f32 0x00000000#32 = 0 := by
  simp [Ideal.ofBits, Ideal.ieee]

theorem of_word {b : Bool} (h : BitVec.ofBool b = 1#1) : b = true := by
  cases b
  · exact absurd h (by decide)
  · rfl

theorem real_of_abs (v : EReal) (h : max v (-v) < ⊤) : v = (v.toReal : EReal) := by
  have h1 : v ≠ ⊤ := fun e => by rw [e] at h; exact absurd h (by simp)
  have h2 : v ≠ ⊥ := fun e => by rw [e] at h; exact absurd h (by simp)
  exact (EReal.coe_toReal h1 h2).symm

/-- An array whose absolute values are all below infinity is an array of reals. -/
theorem real_of {s u t : Shape} {axes : List (Fin s.rank)} [Subsingleton t.Idx] (x z : FVec Ideal s .f32)
    (hz : ∀ i, z i = Ideal.ofBits .f32 0x7F800000#32) (init : u.Idx → BitVec 1) (h : s.ReducesTo axes t) (hu : 0 < u.numel)
    (j : t.Idx) (e : Host.reduce IntOp.andi (cmpf .olt (Host.absf x) z) init h hu j = 1#1) (i : s.Idx) :
    x i = ((x i : EReal).toReal : EReal) := by
  have e1 : BitVec.ofBool (decide ((max (x i) (-(x i)) : EReal) < z i)) = 1#1 := Host.reduce_andi_all _ _ _ _ j e i
  have e2 := of_decide_eq_true (of_word e1)
  rw [hz i, inf_bits] at e2
  exact real_of_abs _ e2

/-- Of two arrays compared with zero, at each place one is not zero. -/
theorem one_of {s u t : Shape} {axes : List (Fin s.rank)} [Subsingleton t.Idx] (x y z z' : FVec Ideal s .f32)
    (hz : ∀ i, z i = Ideal.ofBits .f32 0x00000000#32) (hz' : ∀ i, z' i = Ideal.ofBits .f32 0x00000000#32)
    (init : u.Idx → BitVec 1) (h : s.ReducesTo axes t) (hu : 0 < u.numel)
    (j : t.Idx) (e : Host.reduce IntOp.andi (ori (cmpf .une x z) (cmpf .une y z')) init h hu j = 1#1) (i : s.Idx) :
    (x i : EReal) ≠ 0 ∨ (y i : EReal) ≠ 0 := by
  have e1 : IntOp.ori (BitVec.ofBool (decide ((x i : EReal) ≠ z i))) (BitVec.ofBool (decide ((y i : EReal) ≠ z' i))) = 1#1 :=
    Host.reduce_andi_all _ _ _ _ j e i
  rw [hz i, hz' i, zero_bits] at e1
  exact (IntOp.ori_eq_one.mp e1).imp (fun w => of_decide_eq_true (of_word w)) (fun w => of_decide_eq_true (of_word w))

section
variable (x0 : (⟨2, ![32768, 2048]⟩ : Shape).Idx → EReal) (x1 x2 : (⟨3, ![1, 128, 64]⟩ : Shape).Idx → EReal)
    (x3 x4 : (⟨4, ![1, 128, 64, 16]⟩ : Shape).Idx → EReal) (x5 x6 : (⟨4, ![1, 128, 16, 64]⟩ : Shape).Idx → EReal)
    (x7 : (⟨2, ![1, 2048]⟩ : Shape).Idx → EReal) (x8 : (⟨2, ![1, 128]⟩ : Shape).Idx → EReal)

/-- The inputs an array tuple holds: outside the arrays the transition is one and everything else zero. -/
def parOf : Par where
  x a b := if h : a < 32768 ∧ b < 2048 then (x0 (ix2 ⟨a, h.1⟩ ⟨b, h.2⟩)).toReal else 0
  lr g p := if h : g < 128 ∧ p < 64 then (x1 (ix3 0 ⟨g, h.1⟩ ⟨p, h.2⟩)).toReal else 1
  li g p := if h : g < 128 ∧ p < 64 then (x2 (ix3 0 ⟨g, h.1⟩ ⟨p, h.2⟩)).toReal else 0
  br g p c := if h : g < 128 ∧ p < 64 ∧ c < 16 then (x3 (ix4 0 ⟨g, h.1⟩ ⟨p, h.2.1⟩ ⟨c, h.2.2⟩)).toReal else 0
  bi g p c := if h : g < 128 ∧ p < 64 ∧ c < 16 then (x4 (ix4 0 ⟨g, h.1⟩ ⟨p, h.2.1⟩ ⟨c, h.2.2⟩)).toReal else 0
  cr g c p := if h : g < 128 ∧ c < 16 ∧ p < 64 then x5 (ix4 0 ⟨g, h.1⟩ ⟨c, h.2.1⟩ ⟨p, h.2.2⟩) else 0
  ci g c p := if h : g < 128 ∧ c < 16 ∧ p < 64 then (x6 (ix4 0 ⟨g, h.1⟩ ⟨c, h.2.1⟩ ⟨p, h.2.2⟩)).toReal else 0
  d a := if h : a < 2048 then x7 (ix2 0 ⟨a, h⟩) else 0
  ldt g := if h : g < 128 then (x8 (ix2 0 ⟨g, h⟩)).toReal else 0

theorem args_of (h0 : ∀ i, x0 i = ((x0 i).toReal : EReal)) (h1 : ∀ i, x1 i = ((x1 i).toReal : EReal))
    (h2 : ∀ i, x2 i = ((x2 i).toReal : EReal)) (h3 : ∀ i, x3 i = ((x3 i).toReal : EReal))
    (h4 : ∀ i, x4 i = ((x4 i).toReal : EReal)) (h6 : ∀ i, x6 i = ((x6 i).toReal : EReal))
    (h8 : ∀ i, x8 i = ((x8 i).toReal : EReal)) (hne : ∀ i, x1 i ≠ 0 ∨ x2 i ≠ 0) :
    Args (parOf x0 x1 x2 x3 x4 x5 x6 x7 x8) x0 x1 x2 x3 x4 x5 x6 x7 x8 where
  x a b := by
    show _ = ((dite _ _ _ : ℝ) : EReal)
    rw [dif_pos ⟨a.isLt, b.isLt⟩]; exact h0 _
  lr a b c := by
    show _ = ((dite _ _ _ : ℝ) : EReal)
    rw [dif_pos ⟨b.isLt, c.isLt⟩, Subsingleton.elim a 0]; exact h1 _
  li a b c := by
    show _ = ((dite _ _ _ : ℝ) : EReal)
    rw [dif_pos ⟨b.isLt, c.isLt⟩, Subsingleton.elim a 0]; exact h2 _
  br a b c d := by
    show _ = ((dite _ _ _ : ℝ) : EReal)
    rw [dif_pos ⟨b.isLt, c.isLt, d.isLt⟩, Subsingleton.elim a 0]; exact h3 _
  bi a b c d := by
    show _ = ((dite _ _ _ : ℝ) : EReal)
    rw [dif_pos ⟨b.isLt, c.isLt, d.isLt⟩, Subsingleton.elim a 0]; exact h4 _
  cr a b c d := by
    show _ = dite _ _ _
    rw [dif_pos ⟨b.isLt, c.isLt, d.isLt⟩, Subsingleton.elim a 0]
  ci a b c d := by
    show _ = ((dite _ _ _ : ℝ) : EReal)
    rw [dif_pos ⟨b.isLt, c.isLt, d.isLt⟩, Subsingleton.elim a 0]; exact h6 _
  dd a b := by
    show _ = dite _ _ _
    rw [dif_pos b.isLt, Subsingleton.elim a 0]
  ldt a b := by
    show _ = ((dite _ _ _ : ℝ) : EReal)
    rw [dif_pos b.isLt, Subsingleton.elim a 0]; exact h8 _
  den g p := by
    unfold Par.den parOf
    dsimp only
    by_cases h : g < 128 ∧ p < 64
    · rw [dif_pos h, dif_pos h]
      intro e
      have z := (mul_self_add_mul_self_eq_zero).mp e
      rcases hne (ix3 0 ⟨g, h.1⟩ ⟨p, h.2⟩) with n | n
      · exact n ((h1 _).trans (by rw [z.1]; rfl))
      · exact n ((h2 _).trans (by rw [z.2]; rfl))
    · rw [dif_neg h, dif_neg h]; norm_num

open Cert.Pre_scan_pre in
theorem args_pre [Cert.Pre_scan_pre.Facts] (h : Cert.Pre_scan_pre.fn (F := Ideal) x0 x1 x2 x3 x4 x5 x6 x7 x8 = fun _ => 1#1) :
    Args (parOf x0 x1 x2 x3 x4 x5 x6 x7 x8) x0 x1 x2 x3 x4 x5 x6 x7 x8 := by
  have e := congrFun h (fun a => a.elim0)
  unfold fn fn_part1 fn_part2 at e
  dsimp only at e
  have hs : Subsingleton S_.Idx := ⟨fun a b => funext fun k => k.elim0⟩
  obtain ⟨e, en⟩ := IntOp.andi_eq_one.mp e
  obtain ⟨e, e8⟩ := IntOp.andi_eq_one.mp e
  obtain ⟨e, e6⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact args_of x0 x1 x2 x3 x4 x5 x6 x7 x8 (real_of _ _ (fun _ => rfl) _ _ _ _ e0) (real_of _ _ (fun _ => rfl) _ _ _ _ e1)
    (real_of _ _ (fun _ => rfl) _ _ _ _ e2) (real_of _ _ (fun _ => rfl) _ _ _ _ e3) (real_of _ _ (fun _ => rfl) _ _ _ _ e4)
    (real_of _ _ (fun _ => rfl) _ _ _ _ e6) (real_of _ _ (fun _ => rfl) _ _ _ _ e8)
    (one_of _ _ _ _ (fun _ => rfl) (fun _ => rfl) _ _ _ _ en)
end

end Cert.Scan
end
-- ==== Proof.Scan.Final.lean ====
module

public import proofs.«01_k».proof.Proof.Scan.Entry
public import proofs.«01_k».proof.Proof.Scan.Grid
public import proofs.«01_k».proof.Proof.Scan.Ref
public import proofs.«01_k».proof.Proof.Scan.Pre

@[expose] public section
set_option maxRecDepth 16384
noncomputable section
open Idealize.ShloMosaic Idealize.ShloMosaic.TcCoe Idealize.SL Idealize.SL.Sem

/-! The kernel's result is the reference's. -/

namespace Cert.Scan

/-- From arguments that hold the same inputs, both results are the layer's output. -/
theorem same (q : Par) (m : (ℓ : Loc Cert.ScanIdeal.nD Cert.ScanIdeal.τ Cert.ScanIdeal.sig) → Buf (Elt Ideal) ℓ)
    (m' : (ℓ : Loc Cert.ScanRefIdeal.nD Cert.ScanRefIdeal.τ Cert.ScanRefIdeal.sig) → Buf (Elt Ideal) ℓ)
    (c : Dev Cert.ScanIdeal.nD) (h : Cert.ScanIdeal.Value.Ins m q c) (h' : Cert.ScanRefIdeal.Value.Ins m' q c) :
    Cert.ScanRefIdeal.Value.out_main_v67 (Cert.ScanRefIdeal.Value.STEP^[8192] (StableHlo.entryContents Cert.ScanRefIdeal.Value.preI m' c))
      = Cert.ScanIdeal.Value.G8 m c := by
  funext i
  have e : i = ix2 (i 0) (i 1) := by
    exact Cert.ScanIdeal.Value.at2 i (i 0) (i 1) rfl rfl
  refine (congrArg _ e).trans ((Cert.ScanRefIdeal.Value.result_at m' h' (i 0) (i 1)).trans ?_)
  exact (Cert.ScanIdeal.Value.array_at (Cert.ScanIdeal.Value.holds h) i).symm

end Cert.Scan
end
-- ==== Proof.In.GdnInIdeal.lean ====
module

public import proofs.«01_k».proof.Proof.Gen.GdnInIdeal.Launch
public import proofs.«01_k».proof.Proof.Gen.GdnInIdeal.Skeleton
public import proofs.«01_k».proof.Proof.Gen.GdnInIdeal.Points
public import Idealize.ShloMosaic.Lib.Pipeline.FrameBody
public import Idealize.ShloMosaic.Lib.Pipeline.ClipFacts
public import Idealize.ShloMosaic.Lib.Claim
public import Idealize.ShloMosaic.Lib.Ring
public import Idealize.ShloMosaic.Lib.Tactic

@[expose] public section

set_option maxRecDepth 16384

noncomputable section

/-! The run of the input projection. A point multiplies its rows by its block of columns; the points of column
step 0 also multiply them by the last columns, padded to 128, and the other points leave that block in its buffer.
No block of the weight reaches past the array, so the weight's buffer holds its whole block. -/

namespace Cert.GdnInIdeal.Proj

open Cert.GdnInIdeal Cert.GdnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations -/

/-- The host's operations before the call. -/
abbrev prefixes : List (List (HloOp τ sig (Elt F))) := [hostOps0, hostOps0_1]

/-- A buffer's contents when the call starts. -/
abbrev V (c : Dev nD) (b : Ref sig .tc) : Buf (Elt F) ((c : Thread nD τ).loc b) :=
  StableHlo.after (prefixes (F := F)).flatten (fun b => m (c, b)) b

theorem prefixes_fresh : (prefixes : List (List (HloOp τ sig (Elt F)))).Forall fun ops => ops.Forall fun op => op.fresh = ∅ := by
  simp only [List.Forall]; repeat' constructor

set_option maxHeartbeats 800000 in
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixes ⟨hostOps0_sub, hostOps0_1_sub⟩ prefixes_fresh main_chain

/-- The host writes neither argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [prefixes, hostOps0, hostOps0_1, List.flatten_cons, List.flatten_nil, List.append_nil, List.cons_append,
      List.nil_append, List.Forall, StableHlo.TRef.unary, StableHlo.TRef.binary, StableHlo.nullary_writes, StableHlo.unary_writes,
      StableHlo.binary_writes, StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [prefixes, hostOps0, hostOps0_1, List.flatten_cons, List.flatten_nil, List.append_nil, List.cons_append,
      List.nil_append, List.Forall, StableHlo.TRef.unary, StableHlo.TRef.binary, StableHlo.nullary_writes, StableHlo.unary_writes,
      StableHlo.binary_writes, StableHlo.reshape_writes, Finset.mem_singleton]
    repeat' apply And.intro
    all_goals exact StableHlo.devRef_ne_of_ne (by decide)))

/-! ## The blocks -/

/-- The block of a window at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- No block of the weight is cut. -/
theorem uncut (i : grid0.Coords) (a : Fin 2) : win0_1.clip i a = none := by
  refine Pipeline.Clip.of_eq_none ?_
  revert i a
  decide +kernel

/-- The weight's buffer at a point, whole. -/
def wblk (c : Dev nD) (t : Fin cfg0.N) : Vec F S2048x1024 .bf16 :=
  (cfg0.win 1).fill (cfg0.grid.coords t) (View.canon []) (iblk m c 1 t)

/-- The last columns are computed at the first column step. -/
theorem first_step : ∀ t : Fin cfg0.N, k0_cond1 (grid0.coords t) = 1#1 ↔ t.val % 12 = 0 :=
  (by decide +kernel : ∀ t : Fin grid0.N, k0_cond1 (grid0.coords t) = 1#1 ↔ t.val % 12 = 0)

/-! ## The body -/

abbrev rX : Rect S1024x2048 := Rect.unit (s := S1024x2048) ![0, 0] S1024x2048.size inb_S1024x2048_S1024x2048_0_0
abbrev rW : Rect S2048x1024 := Rect.unit (s := S2048x1024) ![0, 0] S2048x1024.size inb_S2048x1024_S2048x1024_0_0
abbrev rT : Rect S2048x128 := Rect.unit (s := S2048x128) ![0, 0] S2048x128.size inb_S2048x128_S2048x128_0_0
abbrev rO : Rect S1024x1024 := Rect.unit (s := S1024x1024) ![0, 0] S1024x1024.size inb_S1024x1024_S1024x1024_0_0
abbrev rQ : Rect S1024x128 := Rect.unit (s := S1024x128) ![0, 0] S1024x128.size inb_S1024x128_S1024x128_0_0

/-- The block of products. -/
def outO (x : Vec F S1024x2048 .f32) (w : Vec F S2048x1024 .bf16) : Vec F S1024x1024 .f32 :=
  View.canon [⟨rO, k0_pay2 (View.ld x rX) (View.ld w rW)⟩]

/-- The block of the last columns. -/
def outT (x : Vec F S1024x2048 .f32) (w : Vec F S2048x128 .bf16) : Vec F S1024x128 .f32 :=
  View.canon [⟨rQ, k0_pay3 (View.ld x rX) (View.ld w rT)⟩]

theorem cover_O (p : Vec F S1024x1024 .f32) (y : S1024x1024.Idx) :
    ∃ pc ∈ ([⟨rO, p⟩] : List (View.Piece (Elt F) S1024x1024 .f32)), y ∈ pc.1.set :=
  View.cover_of_tiled [⟨rO, p⟩] S1024x1024.size (by rfl) y

theorem cover_T (p : Vec F S1024x128 .f32) (y : S1024x128.Idx) :
    ∃ pc ∈ ([⟨rQ, p⟩] : List (View.Piece (Elt F) S1024x128 .f32)), y ∈ pc.1.set :=
  View.cover_of_tiled [⟨rQ, p⟩] S1024x128.size (by rfl) y

set_option maxHeartbeats 1000000 in
/-- The body at the first column step writes both blocks. -/
theorem body_first
    (c : Dev nD) (E : Set ℕ) (i : grid0.Coords)
    (arg2 : Memref sig .tc .vmem S1024x2048 .f32) (harg2 : arg2.IsWhole) (arg3 : Memref sig .tc .vmem S2048x1024 .bf16) (harg3 : arg3.IsWhole)
    (arg4 : Memref sig .tc .vmem S2048x128 .bf16) (harg4 : arg4.IsWhole) (arg5 : Memref sig .tc .vmem S1024x1024 .f32) (harg5 : arg5.IsWhole)
    (arg6 : Memref sig .tc .vmem S1024x128 .f32) (harg6 : arg6.IsWhole)
    (x0 : Vec F S1024x2048 .f32) (x1 : Vec F S2048x1024 .bf16) (x2 : Vec F S2048x128 .bf16) (K : PUnit → sProp 𝕄)
    (hc : k0_cond1 i = 1#1) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outO x0 x1) ∗ owns (c : Thread nD τ) arg6 fullShare (outT x0 x2)) -∗ K ⟨⟩))
      ⊢ wp frame (wpE (defs₀ (F := F)) Variants.none c none) E
          (cc0_proj i arg2 harg2 arg3 harg3 arg4 harg4 arg5 harg5 arg6 harg6) K := by
  simp only [cc0_proj_eq_skeleton]; unfold cc0_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_O _)
  iexists _; isplitr
  swap; · iexact H4
  ipureintro
  exact View.read_writes_eq_canon _ _ _ (cover_T _)

set_option maxHeartbeats 1000000 in
/-- The body at a later column step leaves the block of the last columns as it is. -/
theorem body_later
    (c : Dev nD) (E : Set ℕ) (i : grid0.Coords)
    (arg2 : Memref sig .tc .vmem S1024x2048 .f32) (harg2 : arg2.IsWhole) (arg3 : Memref sig .tc .vmem S2048x1024 .bf16) (harg3 : arg3.IsWhole)
    (arg4 : Memref sig .tc .vmem S2048x128 .bf16) (harg4 : arg4.IsWhole) (arg5 : Memref sig .tc .vmem S1024x1024 .f32) (harg5 : arg5.IsWhole)
    (arg6 : Memref sig .tc .vmem S1024x128 .f32) (harg6 : arg6.IsWhole)
    (x0 : Vec F S1024x2048 .f32) (x1 : Vec F S2048x1024 .bf16) (x2 : Vec F S2048x128 .bf16) (K : PUnit → sProp 𝕄)
    (hc : ¬ k0_cond1 i = 1#1) (x4 : Vec F S1024x128 .f32) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2
            ∗ owns (c : Thread nD τ) arg5 fullShare (outO x0 x1) ∗ owns (c : Thread nD τ) arg6 fullShare x4) -∗ K ⟨⟩))
      ⊢ wp frame (wpE (defs₀ (F := F)) Variants.none c none) E
          (cc0_proj i arg2 harg2 arg3 harg3 arg4 harg4 arg5 harg5 arg6 harg6) K := by
  simp only [cc0_proj_eq_skeleton]; unfold cc0_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_O _)
  iexists f4; isplitr; · ipureintro; rfl
  iexact H4

/-! ## The contents point by point -/

/-- The arrays at the start and each buffer after each point: an input's block, the products, the last columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => outO (iblk m c 0 t) (wblk m c t)
    | ⟨4, _⟩ => outT (iblk m c 0 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wblk m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outO (iblk m c 0 t) (wblk m c t) := by dsimp only [dats]
theorem after_4 (c : Dev nD) (t : Fin cfg0.N) : (dats m 0 c).after 4 t = outT (iblk m c 0 t) (iblk m c 2 t) := by dsimp only [dats]

/-- The rows' buffer holds their block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)

/-- The weight's buffer holds its block at every point. -/
theorem before_1 (c : Dev nD) (t : Fin cfg0.N) (d) : (dats m 0 c).before 1 t d = wblk m c t := by
  rw [(dats m 0 c).before_fetched 1 t (fetch0_1 t) d]
  unfold Dat.fetched Dat.blockOf wblk iblk
  rw [A_eq]
  exact Pipeline.fill_of_clip_none (cfg := cfg0) 1 _ (uncut _) _ _ _

/-- The last columns' buffer holds them at every point. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans
    (by unfold Dat.fetched Dat.blockOf iblk; rw [A_eq]; rfl)

/-- The point before. -/
abbrev prev (t : Fin cfg0.N) : Fin cfg0.N := ⟨t.val - 1, Nat.lt_of_le_of_lt (Nat.sub_le _ _) t.isLt⟩

/-- The rows do not change from one column step to the next; -/
theorem rows_prev (c : Dev nD) (t : Fin cfg0.N) (ht : t.val % 12 ≠ 0) : iblk m c 0 (prev t) = iblk m c 0 t := by
  have h := (dats m 0 c).before_unfetched_in 0 rfl t
    (Bool.eq_false_iff.mpr fun h => ht ((fetch0_0 t).mp h)) (fun _ => rfl) (fun _ => Classical.arbitrary _)
  rw [before_0] at h
  exact (h.trans (show (dats m 0 c).kept 0 (prev t) _ = _ from after_0 m c (prev t))).symm

/-- nor do the last columns. -/
theorem last_prev (c : Dev nD) (t : Fin cfg0.N) (ht : t.val % 12 ≠ 0) : iblk m c 2 (prev t) = iblk m c 2 t := by
  have h := (dats m 0 c).before_unfetched_in 2 rfl t
    (Bool.eq_false_iff.mpr fun h => ht (by have := (fetch0_2 t).mp h; omega)) (fun _ => rfl) (fun _ => Classical.arbitrary _)
  rw [before_2] at h
  exact (h.trans (show (dats m 0 c).kept 2 (prev t) _ = _ from after_2 m c (prev t))).symm

theorem idle_iff (t : Fin cfg0.N) : cfg0.idle 4 (cfg0.grid.coords t) = !(k0_cond1 (grid0.coords t) == 1#1) := rfl

theorem idle_of (t : Fin cfg0.N) (h : t.val % 12 ≠ 0) : cfg0.idle 4 (cfg0.grid.coords t) = true := by
  have hk : ¬ k0_cond1 (grid0.coords t) = 1#1 := fun hk => h ((first_step t).mp hk)
  rw [idle_iff, Bool.not_eq_true', beq_eq_false_iff_ne]; exact hk

theorem live_of (t : Fin cfg0.N) (h : t.val % 12 = 0) : cfg0.idle 4 (cfg0.grid.coords t) = false := by
  rw [idle_iff, (first_step t).mpr h]; rfl

/-- At a later column step the buffer of the last columns' block holds it. -/
theorem before_4 (c : Dev nD) : ∀ (n : ℕ) (hn : n < cfg0.N), n % 12 ≠ 0 → ∀ d,
    (dats m 0 c).before 4 ⟨n, hn⟩ d = (dats m 0 c).after 4 ⟨n, hn⟩
  | 0, _, h, _ => absurd rfl h
  | n + 1, hn, h, d => by
    have hp : (dats m 0 c).after 4 (prev ⟨n + 1, hn⟩) = (dats m 0 c).after 4 ⟨n + 1, hn⟩ := by
      rw [after_4, after_4, rows_prev m c _ h, last_prev m c _ h]
    have hfl : (cfg0.win 4).flush (prev ⟨n + 1, hn⟩) = false :=
      Bool.eq_false_iff.mpr fun hf => by
        have := (flush0_4 (prev ⟨n + 1, hn⟩)).mp hf
        have e : (prev ⟨n + 1, hn⟩).val = n := rfl
        rw [e] at this; omega
    rw [(dats m 0 c).before_of_pos 4 ⟨n + 1, hn⟩ (Nat.succ_ne_zero n) ((cfg0.win 4).fetch_out rfl _) d, hfl,
      if_neg Bool.false_ne_true, ← hp]
    unfold Dat.left
    by_cases h0 : n % 12 = 0
    · rw [live_of (prev ⟨n + 1, hn⟩) h0]
      rfl
    · rw [idle_of (prev ⟨n + 1, hn⟩) h0]
      exact before_4 c n (Nat.lt_of_succ_lt hn) h0 d

/-! ## Every point -/

/-- What a point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- A buffer holding the block of the last columns is what a point has to leave. -/
theorem leaves_4 (c : Dev nD) (t : Fin cfg0.N) :
    owns (c : Thread nD τ) (st0_4 t) fullShare ((dats m 0 c).after 4 t) ⊢ ((dats m 0 c).leavesExact 4 t : sProp 𝕄) := by
  by_cases h : t.val % 12 = 0
  · unfold Dat.leavesExact; rw [live_of t h]
  · unfold Dat.leavesExact; rw [idle_of t h]
    cases hf : (cfg0.win 4).flush t
    · iintro H; iexists (fun _ => Classical.arbitrary _)
      rw [before_4 m c t.val t.isLt h]; iexact H
    · exact .rfl

theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h : t.val % 12 = 0
  · iintro ⟨HΦ, Ho, ⟨%d0, H0⟩, ⟨%d1, H1⟩, ⟨%d2, H2⟩, ⟨%d3, H3⟩, ⟨%d4, H4⟩⟩
    iapply (body_first c Set.univ (grid0.coords t) _ _ _ _ _ _ _ _ _ _ (iblk m c 0 t) (wblk m c t) (iblk m c 2 t) _ ((first_step t).mpr h))
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    rw [after_4]; iexact H4
  · have hb : ∀ d, (dats m 0 c).before 4 t d = outT (iblk m c 0 t) (iblk m c 2 t) := fun d =>
      (before_4 m c t.val t.isLt h d).trans (after_4 m c t)
    simp only [hb]
    iintro ⟨HΦ, Ho, ⟨%d0, H0⟩, ⟨%d1, H1⟩, ⟨%d2, H2⟩, ⟨%d3, H3⟩, ⟨%d4, H4⟩⟩
    iapply (body_later c Set.univ (grid0.coords t) _ _ _ _ _ _ _ _ _ _ (iblk m c 0 t) (wblk m c t) (iblk m c 2 t) _
      (fun hk => h ((first_step t).mp hk)) (outT (iblk m c 0 t) (iblk m c 2 t)))
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    rw [after_4]; iexact H4

theorem body_row (t : Fin cfg0.N) :
    defs₀ (F := F) .tc cfg0.body (cfg0.bodyArgs t (cfg0.slots t)) = bodyAt0 t := by
  unfold defs₀; rw [Defs.onTc_tc]

theorem body_all (c : Dev nD) : BodyObligation (dats (F := F) m 0 c) (defs₀ (F := F)) Variants.none () Set.univ := fun t => by
  rw [bigSep_W0, bigSep_W0, body_row]
  exact triple_restated (body_point m c t) rfl .rfl fun _ => .rfl

/-! ## The run -/

set_option backward.isDefEq.respectTransparency.types false in
set_option maxHeartbeats 800000 in
/-- The program runs to the end, its arrays as the points leave them and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch0.to₀ defs₀ Variants.none m ρ main
    (hbody := fun c => (body_all m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end as they were. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).1 0).trans (((dats m 0 c).arrAt_in 0 rfl _).trans ((A_eq m c 0).trans (V_arg0 m c))),
    ((h c).2 main_arg1 (Pipeline.mem_restRefs_of main_arg1 (by decide) (by decide))).trans (V_arg1 m c)⟩

/-- The frame. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨kept_args m r h.1, h.2⟩) (run_quiet m ρ)

end Cert.GdnInIdeal.Proj

end
-- ==== Proof.In.GdnValue.lean ====
module

public import proofs.«01_k».proof.Proof.In.GdnInIdeal
public import proofs.«01_k».proof.Proof.Gen.GdnInRefIdeal.Run
public import Idealize.ShloMosaic.Lib.Pipeline.Value
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem
open Idealize.ShloMosaic.Pipeline (Dat)

/-! The input projection: a block of either result is the reference at its rows and columns. -/

namespace Cert.GdnInRefIdeal.Value
open Cert.GdnInRefIdeal Cert.GdnInRefIdeal.Gen

/-- The reference's projection. -/
def projOf (X : FVec Ideal S32768x2048 .f32) (W : FVec Ideal S2x2048x12352 .f32) : FVec Ideal S32768x12352 .f32 :=
  Host.dotGeneral dot_S32768x2048_S2048x12352_S32768x12352_1_0_0_1_n_n none X (shapeCast _ (extractStridedSlice S1x2048x12352 ![0, 0, 0] W slices_S2x2048x12352_S1x2048x12352_0_0_0) shapeCasts_S1x2048x12352_S2048x12352)

/-- Its columns up to the last few. -/
def wideOf (X : FVec Ideal S32768x2048 .f32) (W : FVec Ideal S2x2048x12352 .f32) : FVec Ideal S32768x12288 .f32 :=
  extractStridedSlice S32768x12288 ![0, 0] (projOf X W) slices_S32768x12352_S32768x12288_0_0

/-- Its last columns, with zeros up to 128 columns. -/
def lastOf (X : FVec Ideal S32768x2048 .f32) (W : FVec Ideal S2x2048x12352 .f32) : FVec Ideal S32768x128 .f32 :=
  pad S32768x128 ![0, 0] ![0, 64] ![0, 0] (extractStridedSlice S32768x64 ![0, 12288] (projOf X W) slices_S32768x12352_S32768x64_0_12288)
    (sitofp .f32 (constantI S_ 32 0#32)) pads_S32768x64_S32768x128_000_0640 h_S_

/-- The reference's results. -/
theorem res_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = wideOf (m ((c.tc : Thread nD τ).loc main_arg0)) (m ((c.tc : Thread nD τ).loc main_arg1))
      ∧ r.2.mem ((c.tc : Thread nD τ).loc main_v5) = lastOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.GdnInRefIdeal.Value

namespace Cert.GdnInIdeal.Proj
open Cert.GdnInIdeal Cert.GdnInIdeal.Gen
open Cert.GdnInRefIdeal.Value (projOf wideOf lastOf)

variable (m : (ℓ : Loc nD τ sig) → Buf (Elt Ideal) ℓ)

/-- The windows' block indices at every point of the grid. -/
theorem places : ∀ t : Fin cfg0.N, win0_0.index t = ![t.val / 12, 0] ∧ win0_1.index t = ![0, t.val % 12] ∧ win0_2.index t = ![0, 0]
    ∧ win0_3.index t = ![t.val / 12, t.val % 12] ∧ win0_4.index t = ![t.val / 12, 0] ∧ t.val < 32 * 12 :=
  (by decide +kernel : ∀ t : Fin grid0.N, _)

/-- The integer zero as a narrow number. -/
theorem zero_cast_narrow : FloatOps.sitofp (F := Ideal) FTy.bf16 0#32 = (0 : EReal) := by
  show (((BitVec.toInt 0#32 : ℤ) : ℝ) : EReal) = 0
  simp

/-- The integer zero as a wide number. -/
theorem zero_cast_wide : FloatOps.sitofp (F := Ideal) FTy.f32 0#32 = (0 : EReal) := by
  show (((BitVec.toInt 0#32 : ℤ) : ℝ) : EReal) = 0
  simp

/-- The weight as the call finds it. -/
theorem V_weight (c : Dev nD) : V m c main_v2 = (truncf .bf16 (shapeCast _ (extractStridedSlice S1x2048x12352 ![0, 0, 0] (m ((c : Thread nD τ).loc main_arg1)) slices_S2x2048x12352_S1x2048x12352_0_0_0) shapeCasts_S1x2048x12352_S2048x12352) bitsLt_bf16_f32 : FVec Ideal S2048x12352 .bf16) := by
  generalize hr : (truncf .bf16 (shapeCast _ (extractStridedSlice S1x2048x12352 ![0, 0, 0] (m ((c : Thread nD τ).loc main_arg1)) slices_S2x2048x12352_S1x2048x12352_0_0_0) shapeCasts_S1x2048x12352_S2048x12352) bitsLt_bf16_f32 : FVec Ideal S2048x12352 .bf16) = res
  unfold V prefixes hostOps0 hostOps0_1
  simp only [List.flatten_cons, List.flatten_nil, List.append_nil, List.cons_append,
    List.nil_append, StableHlo.TRef.binary, StableHlo.TRef.unary, StableHlo.TRef.toBuf, StableHlo.TRef.ofBuf, cast_eq]
  after_results <;> (subst hr; rfl)

/-- The last columns as the call finds them. -/
theorem V_last (c : Dev nD) : V m c main_v4 = (pad S2048x128 ![0, 0] ![0, 64] ![0, 0] (extractStridedSlice S2048x64 ![0, 12288]
    (truncf .bf16 (shapeCast _ (extractStridedSlice S1x2048x12352 ![0, 0, 0] (m ((c : Thread nD τ).loc main_arg1)) slices_S2x2048x12352_S1x2048x12352_0_0_0) shapeCasts_S1x2048x12352_S2048x12352) bitsLt_bf16_f32) slices_S2048x12352_S2048x64_0_12288) (sitofp .bf16 (constantI S_ 32 0#32)) pads_S2048x64_S2048x128_000_0640 h_S_ : FVec Ideal S2048x128 .bf16) := by
  generalize hr : (pad S2048x128 ![0, 0] ![0, 64] ![0, 0] (extractStridedSlice S2048x64 ![0, 12288]
    (truncf .bf16 (shapeCast _ (extractStridedSlice S1x2048x12352 ![0, 0, 0] (m ((c : Thread nD τ).loc main_arg1)) slices_S2x2048x12352_S1x2048x12352_0_0_0) shapeCasts_S1x2048x12352_S2048x12352) bitsLt_bf16_f32) slices_S2048x12352_S2048x64_0_12288) (sitofp .bf16 (constantI S_ 32 0#32)) pads_S2048x64_S2048x128_000_0640 h_S_ : FVec Ideal S2048x128 .bf16) = res
  unfold V prefixes hostOps0 hostOps0_1
  simp only [List.flatten_cons, List.flatten_nil, List.append_nil, List.cons_append,
    List.nil_append, StableHlo.TRef.binary, StableHlo.TRef.unary, StableHlo.TRef.toBuf, StableHlo.TRef.ofBuf, cast_eq]
  after_results <;> (subst hr; rfl)

/-- Its entries. -/
theorem weight_apply (c : Dev nD) (i : S2048x12352.Idx) :
    V m c main_v2 i = m ((c : Thread nD τ).loc main_arg1) (ix3 (0 : Fin 2) (i 0) (i 1)) := by
  rw [V_weight]
  pointwise []

/-- Their entries: the weight's, then zeros. -/
theorem last_apply (c : Dev nD) (i : S2048x128.Idx) :
    V m c main_v4 i = if h : (i 1 : ℕ) < 64 then m ((c : Thread nD τ).loc main_arg1) (ix3 (0 : Fin 2) (i 0) ⟨12288 + (i 1 : ℕ), by omega⟩) else (0 : EReal) := by
  rw [V_last, ← V_weight]
  have hw := weight_apply m c
  generalize (V m c main_v2 : FVec Ideal S2048x12352 .bf16) = w at hw ⊢
  pointwise []
  rw [zero_cast_narrow]
  split_ifs with h
  · exact hw _
  · rfl

/-- The weight's buffer, entry by entry. -/
theorem wblk_apply (c : Dev nD) (t : Fin cfg0.N) (y : S2048x1024.Idx) (i : S2048x12352.Idx)
    (hi0 : (i 0 : ℕ) = y 0) (hi1 : (i 1 : ℕ) = t.val % 12 * 1024 + y 1) :
    wblk m c t y = V m c main_v2 i := by
  have hx : ∀ a, (y a).val < win0_1.xsize (grid0.coords t) a := fun a => by
    unfold Pipeline.Window.xsize
    rw [uncut (grid0.coords t) a]
    exact (y a).isLt
  have hm : win0_1.moved (grid0.coords t) y = true := (win0_1.moved_iff _ y).mpr hx
  unfold wblk Pipeline.Window.fill
  rw [dif_pos hm]
  unfold iblk
  have h0 : win0_1.index t 0 = 0 := by rw [(places t).2.1]; rfl
  have h1 : win0_1.index t 1 = t.val % 12 := by rw [(places t).2.1]; rfl
  show V m c main_v2 ((win0_1.rect t).idx _) = V m c main_v2 i
  congr 1
  funext a
  apply Fin.ext
  fin_cases a
  · show win0_1.index t 0 * 2048 + 1 * (y 0 : ℕ) = (i 0 : ℕ)
    omega
  · show win0_1.index t 1 * 1024 + 1 * (y 1 : ℕ) = (i 1 : ℕ)
    omega

/-- The rows' block, entry by entry. -/
theorem rows_apply (c : Dev nD) (t : Fin cfg0.N) (y : S1024x2048.Idx) (i : S32768x2048.Idx)
    (hi0 : (i 0 : ℕ) = t.val / 12 * 1024 + y 0) (hi1 : (i 1 : ℕ) = y 1) :
    iblk m c 0 t y = m ((c : Thread nD τ).loc main_arg0) i := by
  have hp := places t
  unfold iblk
  rw [show V m c (Pipeline.arrRef spec0 0) = m ((c : Thread nD τ).loc main_arg0) from V_arg0 m c]
  blk_point [hp]

/-- The last columns' block, entry by entry. -/
theorem lastblk_apply (c : Dev nD) (t : Fin cfg0.N) (y : S2048x128.Idx) : iblk m c 2 t y = V m c main_v4 y := by
  have hp := places t
  unfold iblk
  change V m c main_v4 ((win0_2.blk t).view.emb y) = V m c main_v4 y
  congr 1
  blk_ext [hp]

/-- What a point writes to the first result is the reference at its rows and columns. -/
theorem point_wide (c : Dev nD) (t : Fin cfg0.N) (y : S1024x1024.Idx) (i : S32768x12288.Idx)
    (hi0 : (i 0 : ℕ) = t.val / 12 * 1024 + y 0) (hi1 : (i 1 : ℕ) = t.val % 12 * 1024 + y 1) :
    k0_pay2 (iblk m c 0 t) (wblk m c t) y
      = wideOf (m ((c : Thread nD τ).loc main_arg0)) (m ((c : Thread nD τ).loc main_arg1)) i := by
  pointwise [k0_pay2, k0_pay1, wideOf, projOf]
  refine Finset.sum_congr rfl fun x _ => ?_
  rw [rows_apply m c t (ix2 (y 0) x) (ix2 (i 0) x) hi0 rfl,
    wblk_apply m c t (ix2 x (y 1)) (ix2 x ⟨(i 1 : ℕ), lt_of_lt_of_le (i 1).isLt (by decide)⟩) rfl hi1, weight_apply]
  rfl

/-- What a point leaves for the second result is the reference at its rows. -/
theorem point_last (c : Dev nD) (t : Fin cfg0.N) (y : S1024x128.Idx) (i : S32768x128.Idx)
    (hi0 : (i 0 : ℕ) = t.val / 12 * 1024 + y 0) (hi1 : (i 1 : ℕ) = y 1) :
    k0_pay3 (iblk m c 0 t) (iblk m c 2 t) y
      = lastOf (m ((c : Thread nD τ).loc main_arg0)) (m ((c : Thread nD τ).loc main_arg1)) i := by
  have hy : (y 1 : Fin 128) = i 1 := Fin.ext hi1.symm
  pointwise [k0_pay3, k0_pay1, lastOf, projOf]
  split_ifs with h
  · refine Finset.sum_congr rfl fun x _ => ?_
    rw [rows_apply m c t (ix2 (y 0) x) (ix2 (i 0) x) hi0 rfl, lastblk_apply, last_apply, hy]
    exact congrArg _ (dif_pos h)
  · rw [zero_cast_wide]
    refine Finset.sum_eq_zero fun x _ => ?_
    rw [lastblk_apply, last_apply, hy]
    exact (congrArg _ (dif_neg h)).trans (mul_zero _)

/-- The first result after the run. -/
theorem final_wide (c : Dev nD) : (dats m 0 c).arrAt 3 (cfgs 0).N
    = wideOf (m ((c : Thread nD τ).loc main_arg0)) (m ((c : Thread nD τ).loc main_arg1)) := by
  refine (dats m 0 c).arrAt_eq_of_covers 3 _ (by decide +kernel) fun t hf y => ?_
  have hp := places t
  blk_simp
  rw [after_3]
  unfold outO
  frame_out
  refine point_wide m c t y _ ?_ ?_
  all_goals (blk_simp [hp] <;> try omega)

/-- The second result after the run. -/
theorem final_last (c : Dev nD) : (dats m 0 c).arrAt 4 (cfgs 0).N
    = lastOf (m ((c : Thread nD τ).loc main_arg0)) (m ((c : Thread nD τ).loc main_arg1)) := by
  refine (dats m 0 c).arrAt_eq_of_covers 4 _ (by decide +kernel) fun t hf y => ?_
  have hp := places t
  blk_simp
  rw [after_4]
  unfold outT
  frame_out
  refine point_last m c t y _ ?_ ?_
  all_goals (blk_simp [hp] <;> try omega)

end Cert.GdnInIdeal.Proj

end
-- ==== Proof.In.GlaInIdeal.lean ====
module

public import proofs.«01_k».proof.Proof.Gen.GlaInIdeal.Launch
public import proofs.«01_k».proof.Proof.Gen.GlaInIdeal.Skeleton
public import proofs.«01_k».proof.Proof.Gen.GlaInIdeal.Points
public import Idealize.ShloMosaic.Lib.Pipeline.FrameBody
public import Idealize.ShloMosaic.Lib.Pipeline.ClipFacts
public import Idealize.ShloMosaic.Lib.Claim
public import Idealize.ShloMosaic.Lib.Ring
public import Idealize.ShloMosaic.Lib.Tactic

@[expose] public section

set_option maxRecDepth 16384

noncomputable section

/-! The run of the input projection. A point multiplies its rows by its block of columns; the points of column
step 0 also multiply them by the last columns, padded to 128, and the other points leave that block in its buffer.
No block of the weight reaches past the array, so the weight's buffer holds its whole block. -/

namespace Cert.GlaInIdeal.Proj

open Cert.GlaInIdeal Cert.GlaInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations -/

/-- The host's operations before the call. -/
abbrev prefixes : List (List (HloOp τ sig (Elt F))) := [hostOps0, hostOps0_1]

/-- A buffer's contents when the call starts. -/
abbrev V (c : Dev nD) (b : Ref sig .tc) : Buf (Elt F) ((c : Thread nD τ).loc b) :=
  StableHlo.after (prefixes (F := F)).flatten (fun b => m (c, b)) b

theorem prefixes_fresh : (prefixes : List (List (HloOp τ sig (Elt F)))).Forall fun ops => ops.Forall fun op => op.fresh = ∅ := by
  simp only [List.Forall]; repeat' constructor

set_option maxHeartbeats 800000 in
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main prefixes ⟨hostOps0_sub, hostOps0_1_sub⟩ prefixes_fresh main_chain

/-- The host writes neither argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [prefixes, hostOps0, hostOps0_1, List.flatten_cons, List.flatten_nil, List.append_nil, List.cons_append,
      List.nil_append, List.Forall, StableHlo.TRef.unary, StableHlo.TRef.binary, StableHlo.nullary_writes, StableHlo.unary_writes,
      StableHlo.binary_writes, StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [prefixes, hostOps0, hostOps0_1, List.flatten_cons, List.flatten_nil, List.append_nil, List.cons_append,
      List.nil_append, List.Forall, StableHlo.TRef.unary, StableHlo.TRef.binary, StableHlo.nullary_writes, StableHlo.unary_writes,
      StableHlo.binary_writes, StableHlo.reshape_writes, Finset.mem_singleton]
    repeat' apply And.intro
    all_goals exact StableHlo.devRef_ne_of_ne (by decide)))

/-! ## The blocks -/

/-- The block of a window at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- No block of the weight is cut. -/
theorem uncut (i : grid0.Coords) (a : Fin 2) : win0_1.clip i a = none := by
  refine Pipeline.Clip.of_eq_none ?_
  revert i a
  decide +kernel

/-- The weight's buffer at a point, whole. -/
def wblk (c : Dev nD) (t : Fin cfg0.N) : Vec F S2048x1024 .bf16 :=
  (cfg0.win 1).fill (cfg0.grid.coords t) (View.canon []) (iblk m c 1 t)

/-- The last columns are computed at the first column step. -/
theorem first_step : ∀ t : Fin cfg0.N, k0_cond1 (grid0.coords t) = 1#1 ↔ t.val % 6 = 0 :=
  (by decide +kernel : ∀ t : Fin grid0.N, k0_cond1 (grid0.coords t) = 1#1 ↔ t.val % 6 = 0)

/-! ## The body -/

abbrev rX : Rect S1024x2048 := Rect.unit (s := S1024x2048) ![0, 0] S1024x2048.size inb_S1024x2048_S1024x2048_0_0
abbrev rW : Rect S2048x1024 := Rect.unit (s := S2048x1024) ![0, 0] S2048x1024.size inb_S2048x1024_S2048x1024_0_0
abbrev rT : Rect S2048x128 := Rect.unit (s := S2048x128) ![0, 0] S2048x128.size inb_S2048x128_S2048x128_0_0
abbrev rO : Rect S1024x1024 := Rect.unit (s := S1024x1024) ![0, 0] S1024x1024.size inb_S1024x1024_S1024x1024_0_0
abbrev rQ : Rect S1024x128 := Rect.unit (s := S1024x128) ![0, 0] S1024x128.size inb_S1024x128_S1024x128_0_0

/-- The block of products. -/
def outO (x : Vec F S1024x2048 .f32) (w : Vec F S2048x1024 .bf16) : Vec F S1024x1024 .f32 :=
  View.canon [⟨rO, k0_pay2 (View.ld x rX) (View.ld w rW)⟩]

/-- The block of the last columns. -/
def outT (x : Vec F S1024x2048 .f32) (w : Vec F S2048x128 .bf16) : Vec F S1024x128 .f32 :=
  View.canon [⟨rQ, k0_pay3 (View.ld x rX) (View.ld w rT)⟩]

theorem cover_O (p : Vec F S1024x1024 .f32) (y : S1024x1024.Idx) :
    ∃ pc ∈ ([⟨rO, p⟩] : List (View.Piece (Elt F) S1024x1024 .f32)), y ∈ pc.1.set :=
  View.cover_of_tiled [⟨rO, p⟩] S1024x1024.size (by rfl) y

theorem cover_T (p : Vec F S1024x128 .f32) (y : S1024x128.Idx) :
    ∃ pc ∈ ([⟨rQ, p⟩] : List (View.Piece (Elt F) S1024x128 .f32)), y ∈ pc.1.set :=
  View.cover_of_tiled [⟨rQ, p⟩] S1024x128.size (by rfl) y

set_option maxHeartbeats 1000000 in
/-- The body at the first column step writes both blocks. -/
theorem body_first
    (c : Dev nD) (E : Set ℕ) (i : grid0.Coords)
    (arg2 : Memref sig .tc .vmem S1024x2048 .f32) (harg2 : arg2.IsWhole) (arg3 : Memref sig .tc .vmem S2048x1024 .bf16) (harg3 : arg3.IsWhole)
    (arg4 : Memref sig .tc .vmem S2048x128 .bf16) (harg4 : arg4.IsWhole) (arg5 : Memref sig .tc .vmem S1024x1024 .f32) (harg5 : arg5.IsWhole)
    (arg6 : Memref sig .tc .vmem S1024x128 .f32) (harg6 : arg6.IsWhole)
    (x0 : Vec F S1024x2048 .f32) (x1 : Vec F S2048x1024 .bf16) (x2 : Vec F S2048x128 .bf16) (K : PUnit → sProp 𝕄)
    (hc : k0_cond1 i = 1#1) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outO x0 x1) ∗ owns (c : Thread nD τ) arg6 fullShare (outT x0 x2)) -∗ K ⟨⟩))
      ⊢ wp frame (wpE (defs₀ (F := F)) Variants.none c none) E
          (cc0_proj i arg2 harg2 arg3 harg3 arg4 harg4 arg5 harg5 arg6 harg6) K := by
  simp only [cc0_proj_eq_skeleton]; unfold cc0_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_O _)
  iexists _; isplitr
  swap; · iexact H4
  ipureintro
  exact View.read_writes_eq_canon _ _ _ (cover_T _)

set_option maxHeartbeats 1000000 in
/-- The body at a later column step leaves the block of the last columns as it is. -/
theorem body_later
    (c : Dev nD) (E : Set ℕ) (i : grid0.Coords)
    (arg2 : Memref sig .tc .vmem S1024x2048 .f32) (harg2 : arg2.IsWhole) (arg3 : Memref sig .tc .vmem S2048x1024 .bf16) (harg3 : arg3.IsWhole)
    (arg4 : Memref sig .tc .vmem S2048x128 .bf16) (harg4 : arg4.IsWhole) (arg5 : Memref sig .tc .vmem S1024x1024 .f32) (harg5 : arg5.IsWhole)
    (arg6 : Memref sig .tc .vmem S1024x128 .f32) (harg6 : arg6.IsWhole)
    (x0 : Vec F S1024x2048 .f32) (x1 : Vec F S2048x1024 .bf16) (x2 : Vec F S2048x128 .bf16) (K : PUnit → sProp 𝕄)
    (hc : ¬ k0_cond1 i = 1#1) (x4 : Vec F S1024x128 .f32) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2
            ∗ owns (c : Thread nD τ) arg5 fullShare (outO x0 x1) ∗ owns (c : Thread nD τ) arg6 fullShare x4) -∗ K ⟨⟩))
      ⊢ wp frame (wpE (defs₀ (F := F)) Variants.none c none) E
          (cc0_proj i arg2 harg2 arg3 harg3 arg4 harg4 arg5 harg5 arg6 harg6) K := by
  simp only [cc0_proj_eq_skeleton]; unfold cc0_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_O _)
  iexists f4; isplitr; · ipureintro; rfl
  iexact H4

/-! ## The contents point by point -/

/-- The arrays at the start and each buffer after each point: an input's block, the products, the last columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => outO (iblk m c 0 t) (wblk m c t)
    | ⟨4, _⟩ => outT (iblk m c 0 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wblk m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outO (iblk m c 0 t) (wblk m c t) := by dsimp only [dats]
theorem after_4 (c : Dev nD) (t : Fin cfg0.N) : (dats m 0 c).after 4 t = outT (iblk m c 0 t) (iblk m c 2 t) := by dsimp only [dats]

/-- The rows' buffer holds their block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)

/-- The weight's buffer holds its block at every point. -/
theorem before_1 (c : Dev nD) (t : Fin cfg0.N) (d) : (dats m 0 c).before 1 t d = wblk m c t := by
  rw [(dats m 0 c).before_fetched 1 t (fetch0_1 t) d]
  unfold Dat.fetched Dat.blockOf wblk iblk
  rw [A_eq]
  exact Pipeline.fill_of_clip_none (cfg := cfg0) 1 _ (uncut _) _ _ _

/-- The last columns' buffer holds them at every point. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans
    (by unfold Dat.fetched Dat.blockOf iblk; rw [A_eq]; rfl)

/-- The point before. -/
abbrev prev (t : Fin cfg0.N) : Fin cfg0.N := ⟨t.val - 1, Nat.lt_of_le_of_lt (Nat.sub_le _ _) t.isLt⟩

/-- The rows do not change from one column step to the next; -/
theorem rows_prev (c : Dev nD) (t : Fin cfg0.N) (ht : t.val % 6 ≠ 0) : iblk m c 0 (prev t) = iblk m c 0 t := by
  have h := (dats m 0 c).before_unfetched_in 0 rfl t
    (Bool.eq_false_iff.mpr fun h => ht ((fetch0_0 t).mp h)) (fun _ => rfl) (fun _ => Classical.arbitrary _)
  rw [before_0] at h
  exact (h.trans (show (dats m 0 c).kept 0 (prev t) _ = _ from after_0 m c (prev t))).symm

/-- nor do the last columns. -/
theorem last_prev (c : Dev nD) (t : Fin cfg0.N) (ht : t.val % 6 ≠ 0) : iblk m c 2 (prev t) = iblk m c 2 t := by
  have h := (dats m 0 c).before_unfetched_in 2 rfl t
    (Bool.eq_false_iff.mpr fun h => ht (by have := (fetch0_2 t).mp h; omega)) (fun _ => rfl) (fun _ => Classical.arbitrary _)
  rw [before_2] at h
  exact (h.trans (show (dats m 0 c).kept 2 (prev t) _ = _ from after_2 m c (prev t))).symm

theorem idle_iff (t : Fin cfg0.N) : cfg0.idle 4 (cfg0.grid.coords t) = !(k0_cond1 (grid0.coords t) == 1#1) := rfl

theorem idle_of (t : Fin cfg0.N) (h : t.val % 6 ≠ 0) : cfg0.idle 4 (cfg0.grid.coords t) = true := by
  have hk : ¬ k0_cond1 (grid0.coords t) = 1#1 := fun hk => h ((first_step t).mp hk)
  rw [idle_iff, Bool.not_eq_true', beq_eq_false_iff_ne]; exact hk

theorem live_of (t : Fin cfg0.N) (h : t.val % 6 = 0) : cfg0.idle 4 (cfg0.grid.coords t) = false := by
  rw [idle_iff, (first_step t).mpr h]; rfl

/-- At a later column step the buffer of the last columns' block holds it. -/
theorem before_4 (c : Dev nD) : ∀ (n : ℕ) (hn : n < cfg0.N), n % 6 ≠ 0 → ∀ d,
    (dats m 0 c).before 4 ⟨n, hn⟩ d = (dats m 0 c).after 4 ⟨n, hn⟩
  | 0, _, h, _ => absurd rfl h
  | n + 1, hn, h, d => by
    have hp : (dats m 0 c).after 4 (prev ⟨n + 1, hn⟩) = (dats m 0 c).after 4 ⟨n + 1, hn⟩ := by
      rw [after_4, after_4, rows_prev m c _ h, last_prev m c _ h]
    have hfl : (cfg0.win 4).flush (prev ⟨n + 1, hn⟩) = false :=
      Bool.eq_false_iff.mpr fun hf => by
        have := (flush0_4 (prev ⟨n + 1, hn⟩)).mp hf
        have e : (prev ⟨n + 1, hn⟩).val = n := rfl
        rw [e] at this; omega
    rw [(dats m 0 c).before_of_pos 4 ⟨n + 1, hn⟩ (Nat.succ_ne_zero n) ((cfg0.win 4).fetch_out rfl _) d, hfl,
      if_neg Bool.false_ne_true, ← hp]
    unfold Dat.left
    by_cases h0 : n % 6 = 0
    · rw [live_of (prev ⟨n + 1, hn⟩) h0]
      rfl
    · rw [idle_of (prev ⟨n + 1, hn⟩) h0]
      exact before_4 c n (Nat.lt_of_succ_lt hn) h0 d

/-! ## Every point -/

/-- What a point starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- A buffer holding the block of the last columns is what a point has to leave. -/
theorem leaves_4 (c : Dev nD) (t : Fin cfg0.N) :
    owns (c : Thread nD τ) (st0_4 t) fullShare ((dats m 0 c).after 4 t) ⊢ ((dats m 0 c).leavesExact 4 t : sProp 𝕄) := by
  by_cases h : t.val % 6 = 0
  · unfold Dat.leavesExact; rw [live_of t h]
  · unfold Dat.leavesExact; rw [idle_of t h]
    cases hf : (cfg0.win 4).flush t
    · iintro H; iexists (fun _ => Classical.arbitrary _)
      rw [before_4 m c t.val t.isLt h]; iexact H
    · exact .rfl

theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h : t.val % 6 = 0
  · iintro ⟨HΦ, Ho, ⟨%d0, H0⟩, ⟨%d1, H1⟩, ⟨%d2, H2⟩, ⟨%d3, H3⟩, ⟨%d4, H4⟩⟩
    iapply (body_first c Set.univ (grid0.coords t) _ _ _ _ _ _ _ _ _ _ (iblk m c 0 t) (wblk m c t) (iblk m c 2 t) _ ((first_step t).mpr h))
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    rw [after_4]; iexact H4
  · have hb : ∀ d, (dats m 0 c).before 4 t d = outT (iblk m c 0 t) (iblk m c 2 t) := fun d =>
      (before_4 m c t.val t.isLt h d).trans (after_4 m c t)
    simp only [hb]
    iintro ⟨HΦ, Ho, ⟨%d0, H0⟩, ⟨%d1, H1⟩, ⟨%d2, H2⟩, ⟨%d3, H3⟩, ⟨%d4, H4⟩⟩
    iapply (body_later c Set.univ (grid0.coords t) _ _ _ _ _ _ _ _ _ _ (iblk m c 0 t) (wblk m c t) (iblk m c 2 t) _
      (fun hk => h ((first_step t).mp hk)) (outT (iblk m c 0 t) (iblk m c 2 t)))
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    rw [after_4]; iexact H4

theorem body_row (t : Fin cfg0.N) :
    defs₀ (F := F) .tc cfg0.body (cfg0.bodyArgs t (cfg0.slots t)) = bodyAt0 t := by
  unfold defs₀; rw [Defs.onTc_tc]

theorem body_all (c : Dev nD) : BodyObligation (dats (F := F) m 0 c) (defs₀ (F := F)) Variants.none () Set.univ := fun t => by
  rw [bigSep_W0, bigSep_W0, body_row]
  exact triple_restated (body_point m c t) rfl .rfl fun _ => .rfl

/-! ## The run -/

set_option backward.isDefEq.respectTransparency.types false in
set_option maxHeartbeats 800000 in
/-- The program runs to the end, its arrays as the points leave them and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch0.to₀ defs₀ Variants.none m ρ main
    (hbody := fun c => (body_all m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end as they were. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).1 0).trans (((dats m 0 c).arrAt_in 0 rfl _).trans ((A_eq m c 0).trans (V_arg0 m c))),
    ((h c).2 main_arg1 (Pipeline.mem_restRefs_of main_arg1 (by decide) (by decide))).trans (V_arg1 m c)⟩

/-- The frame. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨kept_args m r h.1, h.2⟩) (run_quiet m ρ)

end Cert.GlaInIdeal.Proj

end
-- ==== Proof.In.GlaValue.lean ====
module

public import proofs.«01_k».proof.Proof.In.GlaInIdeal
public import proofs.«01_k».proof.Proof.Gen.GlaInRefIdeal.Run
public import Idealize.ShloMosaic.Lib.Pipeline.Value
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem
open Idealize.ShloMosaic.Pipeline (Dat)

/-! The input projection: a block of either result is the reference at its rows and columns. -/

namespace Cert.GlaInRefIdeal.Value
open Cert.GlaInRefIdeal Cert.GlaInRefIdeal.Gen

/-- The reference's projection. -/
def projOf (X : FVec Ideal S32768x2048 .f32) (W : FVec Ideal S1x2048x6160 .f32) : FVec Ideal S32768x6160 .f32 :=
  Host.dotGeneral dot_S32768x2048_S2048x6160_S32768x6160_1_0_0_1_n_n none X (shapeCast _ W shapeCasts_S1x2048x6160_S2048x6160)

/-- Its columns up to the last few. -/
def wideOf (X : FVec Ideal S32768x2048 .f32) (W : FVec Ideal S1x2048x6160 .f32) : FVec Ideal S32768x6144 .f32 :=
  extractStridedSlice S32768x6144 ![0, 0] (projOf X W) slices_S32768x6160_S32768x6144_0_0

/-- Its last columns, with zeros up to 128 columns. -/
def lastOf (X : FVec Ideal S32768x2048 .f32) (W : FVec Ideal S1x2048x6160 .f32) : FVec Ideal S32768x128 .f32 :=
  pad S32768x128 ![0, 0] ![0, 112] ![0, 0] (extractStridedSlice S32768x16 ![0, 6144] (projOf X W) slices_S32768x6160_S32768x16_0_6144)
    (sitofp .f32 (constantI S_ 32 0#32)) pads_S32768x16_S32768x128_000_01120 h_S_

/-- The reference's results. -/
theorem res_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = wideOf (m ((c.tc : Thread nD τ).loc main_arg0)) (m ((c.tc : Thread nD τ).loc main_arg1))
      ∧ r.2.mem ((c.tc : Thread nD τ).loc main_v4) = lastOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.GlaInRefIdeal.Value

namespace Cert.GlaInIdeal.Proj
open Cert.GlaInIdeal Cert.GlaInIdeal.Gen
open Cert.GlaInRefIdeal.Value (projOf wideOf lastOf)

variable (m : (ℓ : Loc nD τ sig) → Buf (Elt Ideal) ℓ)

/-- The windows' block indices at every point of the grid. -/
theorem places : ∀ t : Fin cfg0.N, win0_0.index t = ![t.val / 6, 0] ∧ win0_1.index t = ![0, t.val % 6] ∧ win0_2.index t = ![0, 0]
    ∧ win0_3.index t = ![t.val / 6, t.val % 6] ∧ win0_4.index t = ![t.val / 6, 0] ∧ t.val < 32 * 6 :=
  (by decide +kernel : ∀ t : Fin grid0.N, _)

/-- The integer zero as a narrow number. -/
theorem zero_cast_narrow : FloatOps.sitofp (F := Ideal) FTy.bf16 0#32 = (0 : EReal) := by
  show (((BitVec.toInt 0#32 : ℤ) : ℝ) : EReal) = 0
  simp

/-- The integer zero as a wide number. -/
theorem zero_cast_wide : FloatOps.sitofp (F := Ideal) FTy.f32 0#32 = (0 : EReal) := by
  show (((BitVec.toInt 0#32 : ℤ) : ℝ) : EReal) = 0
  simp

/-- The weight as the call finds it. -/
theorem V_weight (c : Dev nD) : V m c main_v1 = (truncf .bf16 (shapeCast _ (m ((c : Thread nD τ).loc main_arg1)) shapeCasts_S1x2048x6160_S2048x6160) bitsLt_bf16_f32 : FVec Ideal S2048x6160 .bf16) := by
  generalize hr : (truncf .bf16 (shapeCast _ (m ((c : Thread nD τ).loc main_arg1)) shapeCasts_S1x2048x6160_S2048x6160) bitsLt_bf16_f32 : FVec Ideal S2048x6160 .bf16) = res
  unfold V prefixes hostOps0 hostOps0_1
  simp only [List.flatten_cons, List.flatten_nil, List.append_nil, List.cons_append,
    List.nil_append, StableHlo.TRef.binary, StableHlo.TRef.unary, StableHlo.TRef.toBuf, StableHlo.TRef.ofBuf, cast_eq]
  after_results <;> (subst hr; rfl)

/-- The last columns as the call finds them. -/
theorem V_last (c : Dev nD) : V m c main_v3 = (pad S2048x128 ![0, 0] ![0, 112] ![0, 0] (extractStridedSlice S2048x16 ![0, 6144]
    (truncf .bf16 (shapeCast _ (m ((c : Thread nD τ).loc main_arg1)) shapeCasts_S1x2048x6160_S2048x6160) bitsLt_bf16_f32) slices_S2048x6160_S2048x16_0_6144) (sitofp .bf16 (constantI S_ 32 0#32)) pads_S2048x16_S2048x128_000_01120 h_S_ : FVec Ideal S2048x128 .bf16) := by
  generalize hr : (pad S2048x128 ![0, 0] ![0, 112] ![0, 0] (extractStridedSlice S2048x16 ![0, 6144]
    (truncf .bf16 (shapeCast _ (m ((c : Thread nD τ).loc main_arg1)) shapeCasts_S1x2048x6160_S2048x6160) bitsLt_bf16_f32) slices_S2048x6160_S2048x16_0_6144) (sitofp .bf16 (constantI S_ 32 0#32)) pads_S2048x16_S2048x128_000_01120 h_S_ : FVec Ideal S2048x128 .bf16) = res
  unfold V prefixes hostOps0 hostOps0_1
  simp only [List.flatten_cons, List.flatten_nil, List.append_nil, List.cons_append,
    List.nil_append, StableHlo.TRef.binary, StableHlo.TRef.unary, StableHlo.TRef.toBuf, StableHlo.TRef.ofBuf, cast_eq]
  after_results <;> (subst hr; rfl)

/-- Its entries. -/
theorem weight_apply (c : Dev nD) (i : S2048x6160.Idx) :
    V m c main_v1 i = m ((c : Thread nD τ).loc main_arg1) (ix3 (0 : Fin 1) (i 0) (i 1)) := by
  rw [V_weight]
  exact (congrArg _ (show i = ix2 (i 0) (i 1) from by funext a; fin_cases a <;> rfl)).trans (Idealize.ShloMosaic.ValueIdx.shapeCast_1ab_ab_apply _ _ (i 0) (i 1))

/-- Their entries: the weight's, then zeros. -/
theorem last_apply (c : Dev nD) (i : S2048x128.Idx) :
    V m c main_v3 i = if h : (i 1 : ℕ) < 16 then m ((c : Thread nD τ).loc main_arg1) (ix3 (0 : Fin 1) (i 0) ⟨6144 + (i 1 : ℕ), by omega⟩) else (0 : EReal) := by
  rw [V_last, ← V_weight]
  have hw := weight_apply m c
  generalize (V m c main_v1 : FVec Ideal S2048x6160 .bf16) = w at hw ⊢
  pointwise []
  rw [zero_cast_narrow]
  split_ifs with h
  · exact hw _
  · rfl

/-- The weight's buffer, entry by entry. -/
theorem wblk_apply (c : Dev nD) (t : Fin cfg0.N) (y : S2048x1024.Idx) (i : S2048x6160.Idx)
    (hi0 : (i 0 : ℕ) = y 0) (hi1 : (i 1 : ℕ) = t.val % 6 * 1024 + y 1) :
    wblk m c t y = V m c main_v1 i := by
  have hx : ∀ a, (y a).val < win0_1.xsize (grid0.coords t) a := fun a => by
    unfold Pipeline.Window.xsize
    rw [uncut (grid0.coords t) a]
    exact (y a).isLt
  have hm : win0_1.moved (grid0.coords t) y = true := (win0_1.moved_iff _ y).mpr hx
  unfold wblk Pipeline.Window.fill
  rw [dif_pos hm]
  unfold iblk
  have h0 : win0_1.index t 0 = 0 := by rw [(places t).2.1]; rfl
  have h1 : win0_1.index t 1 = t.val % 6 := by rw [(places t).2.1]; rfl
  show V m c main_v1 ((win0_1.rect t).idx _) = V m c main_v1 i
  congr 1
  funext a
  apply Fin.ext
  fin_cases a
  · show win0_1.index t 0 * 2048 + 1 * (y 0 : ℕ) = (i 0 : ℕ)
    omega
  · show win0_1.index t 1 * 1024 + 1 * (y 1 : ℕ) = (i 1 : ℕ)
    omega

/-- The rows' block, entry by entry. -/
theorem rows_apply (c : Dev nD) (t : Fin cfg0.N) (y : S1024x2048.Idx) (i : S32768x2048.Idx)
    (hi0 : (i 0 : ℕ) = t.val / 6 * 1024 + y 0) (hi1 : (i 1 : ℕ) = y 1) :
    iblk m c 0 t y = m ((c : Thread nD τ).loc main_arg0) i := by
  have hp := places t
  unfold iblk
  rw [show V m c (Pipeline.arrRef spec0 0) = m ((c : Thread nD τ).loc main_arg0) from V_arg0 m c]
  blk_point [hp]

/-- The last columns' block, entry by entry. -/
theorem lastblk_apply (c : Dev nD) (t : Fin cfg0.N) (y : S2048x128.Idx) : iblk m c 2 t y = V m c main_v3 y := by
  have hp := places t
  unfold iblk
  change V m c main_v3 ((win0_2.blk t).view.emb y) = V m c main_v3 y
  congr 1
  blk_ext [hp]

/-- What a point writes to the first result is the reference at its rows and columns. -/
theorem point_wide (c : Dev nD) (t : Fin cfg0.N) (y : S1024x1024.Idx) (i : S32768x6144.Idx)
    (hi0 : (i 0 : ℕ) = t.val / 6 * 1024 + y 0) (hi1 : (i 1 : ℕ) = t.val % 6 * 1024 + y 1) :
    k0_pay2 (iblk m c 0 t) (wblk m c t) y
      = wideOf (m ((c : Thread nD τ).loc main_arg0)) (m ((c : Thread nD τ).loc main_arg1)) i := by
  pointwise [k0_pay2, k0_pay1, wideOf, projOf]
  refine Finset.sum_congr rfl fun x _ => ?_
  rw [rows_apply m c t (ix2 (y 0) x) (ix2 (i 0) x) hi0 rfl,
    wblk_apply m c t (ix2 x (y 1)) (ix2 x ⟨(i 1 : ℕ), lt_of_lt_of_le (i 1).isLt (by decide)⟩) rfl hi1, weight_apply]
  rfl

/-- What a point leaves for the second result is the reference at its rows. -/
theorem point_last (c : Dev nD) (t : Fin cfg0.N) (y : S1024x128.Idx) (i : S32768x128.Idx)
    (hi0 : (i 0 : ℕ) = t.val / 6 * 1024 + y 0) (hi1 : (i 1 : ℕ) = y 1) :
    k0_pay3 (iblk m c 0 t) (iblk m c 2 t) y
      = lastOf (m ((c : Thread nD τ).loc main_arg0)) (m ((c : Thread nD τ).loc main_arg1)) i := by
  have hy : (y 1 : Fin 128) = i 1 := Fin.ext hi1.symm
  pointwise [k0_pay3, k0_pay1, lastOf, projOf]
  split_ifs with h
  · refine Finset.sum_congr rfl fun x _ => ?_
    rw [rows_apply m c t (ix2 (y 0) x) (ix2 (i 0) x) hi0 rfl, lastblk_apply, last_apply, hy]
    exact congrArg _ (dif_pos h)
  · rw [zero_cast_wide]
    refine Finset.sum_eq_zero fun x _ => ?_
    rw [lastblk_apply, last_apply, hy]
    exact (congrArg _ (dif_neg h)).trans (mul_zero _)

/-- The first result after the run. -/
theorem final_wide (c : Dev nD) : (dats m 0 c).arrAt 3 (cfgs 0).N
    = wideOf (m ((c : Thread nD τ).loc main_arg0)) (m ((c : Thread nD τ).loc main_arg1)) := by
  refine (dats m 0 c).arrAt_eq_of_covers 3 _ (by decide +kernel) fun t hf y => ?_
  have hp := places t
  blk_simp
  rw [after_3]
  unfold outO
  frame_out
  refine point_wide m c t y _ ?_ ?_
  all_goals (blk_simp [hp] <;> try omega)

/-- The second result after the run. -/
theorem final_last (c : Dev nD) : (dats m 0 c).arrAt 4 (cfgs 0).N
    = lastOf (m ((c : Thread nD τ).loc main_arg0)) (m ((c : Thread nD τ).loc main_arg1)) := by
  refine (dats m 0 c).arrAt_eq_of_covers 4 _ (by decide +kernel) fun t hf y => ?_
  have hp := places t
  blk_simp
  rw [after_4]
  unfold outT
  frame_out
  refine point_last m c t y _ ?_ ?_
  all_goals (blk_simp [hp] <;> try omega)

end Cert.GlaInIdeal.Proj

end
-- ==== Proof.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.ScanIdeal.Value
public import proofs.«01_k».proof.Proof.Gen.ScanRefIdeal
public import proofs.«01_k».proof.Proof.Gen.ScanRefIdeal.Run
public import proofs.«01_k».proof.Proof.Gen.GdnOut
public import proofs.«01_k».proof.Proof.Gen.GdnOut.Frame
public import proofs.«01_k».proof.Proof.Gen.GdnOutIdeal
public import proofs.«01_k».proof.Proof.Gen.GdnOutIdeal.Frame
public import proofs.«01_k».proof.Proof.Gen.GdnOutIdeal.Value
public import proofs.«01_k».proof.Proof.Gen.GdnOutRefIdeal
public import proofs.«01_k».proof.Proof.Gen.GdnOutRefIdeal.Run
public import proofs.«01_k».proof.Proof.Gen.GlaOut
public import proofs.«01_k».proof.Proof.Gen.GlaOut.Frame
public import proofs.«01_k».proof.Proof.Gen.GlaOutIdeal
public import proofs.«01_k».proof.Proof.Gen.GlaOutIdeal.Frame
public import proofs.«01_k».proof.Proof.Gen.GlaOutIdeal.Value
public import proofs.«01_k».proof.Proof.Gen.GlaOutRefIdeal
public import proofs.«01_k».proof.Proof.Gen.GlaOutRefIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.Pre_scan_pre
public import proofs.«01_k».proof.Proof.Gen.GdnIn
public import proofs.«01_k».proof.Proof.Gen.GdnIn.Launch
public import proofs.«01_k».proof.Proof.Gen.GdnIn.Points
public import proofs.«01_k».proof.Proof.Gen.GdnIn.Skeleton
public import proofs.«01_k».proof.Proof.Gen.GdnInIdeal
public import proofs.«01_k».proof.Proof.Gen.GdnInIdeal.Launch
public import proofs.«01_k».proof.Proof.Gen.GdnInIdeal.Points
public import proofs.«01_k».proof.Proof.Gen.GdnInIdeal.Skeleton
public import proofs.«01_k».proof.Proof.Gen.GlaIn
public import proofs.«01_k».proof.Proof.Gen.GlaIn.Launch
public import proofs.«01_k».proof.Proof.Gen.GlaIn.Points
public import proofs.«01_k».proof.Proof.Gen.GlaIn.Skeleton
public import proofs.«01_k».proof.Proof.Gen.GlaInIdeal
public import proofs.«01_k».proof.Proof.Gen.GlaInIdeal.Launch
public import proofs.«01_k».proof.Proof.Gen.GlaInIdeal.Points
public import proofs.«01_k».proof.Proof.Gen.GlaInIdeal.Skeleton
public import proofs.«01_k».proof.Proof.Gen.GdnInRefIdeal
public import proofs.«01_k».proof.Proof.Gen.GdnInRefIdeal.Run
public import proofs.«01_k».proof.Proof.Gen.GlaInRefIdeal
public import proofs.«01_k».proof.Proof.Gen.GlaInRefIdeal.Run
public import proofs.«01_k».proof.Proof.Gen.Gla
public import proofs.«01_k».proof.Proof.Gen.Gla.Frame
public import proofs.«01_k».proof.Proof.Gen.Gla.Skeleton
public import proofs.«01_k».proof.Proof.Gen.Gla.Loops
public import proofs.«01_k».proof.Proof.Gen.GlaIdeal
public import proofs.«01_k».proof.Proof.Gen.GlaIdeal.Frame
public import proofs.«01_k».proof.Proof.Gen.GlaIdeal.Skeleton
public import proofs.«01_k».proof.Proof.Gen.GlaIdeal.Loops
public import proofs.«01_k».proof.Proof.Gen.Gdn
public import proofs.«01_k».proof.Proof.Gen.Gdn.Frame
public import proofs.«01_k».proof.Proof.Gen.GdnIdeal
public import proofs.«01_k».proof.Proof.Gen.GdnIdeal.Frame
public import proofs.«01_k».proof.Proof.Ffn.Final
public import proofs.«01_k».proof.Proof.Out.GdnOut
public import proofs.«01_k».proof.Proof.Run.Gla
public import proofs.«01_k».proof.Proof.Run.GlaIdeal
public import proofs.«01_k».proof.Proof.Out.GlaOut
public import proofs.«01_k».proof.Proof.Out.Glu
public import proofs.«01_k».proof.Proof.Scan.Final
public import proofs.«01_k».proof.Proof.In.GdnIn
public import proofs.«01_k».proof.Proof.In.GlaIn
public import proofs.«01_k».proof.Proof.In.GdnValue
public import proofs.«01_k».proof.Proof.In.GlaValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-! A reference is operations on the host alone: its arguments are kept and no counter is raised. -/

theorem ffnRef_frame : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run m ρ)

theorem scanRef_frame : Cert.quiescent_ScanRefIdeal (hScanRefIdeal := Cert.ScanRefIdeal.Gen.facts) := fun m ρ _ =>
  (θ_run Cert.ScanRefIdeal.defs _ _).mono (fun r h => ⟨fun c => (h c).2, sem_eq_zero_of_no_sems (by decide) r.2⟩)
    (Cert.ScanRefIdeal.Value.run m ρ)

theorem gdnInRef_frame : Cert.quiescent_GdnInRefIdeal (hGdnInRefIdeal := Cert.GdnInRefIdeal.Gen.facts) := fun m ρ _ =>
  (θ_run Cert.GdnInRefIdeal.defs _ _).mono (fun r h => ⟨fun c => (h c).2.2, sem_eq_zero_of_no_sems (by decide) r.2⟩)
    (Cert.GdnInRefIdeal.Value.run m ρ)

theorem glaInRef_frame : Cert.quiescent_GlaInRefIdeal (hGlaInRefIdeal := Cert.GlaInRefIdeal.Gen.facts) := fun m ρ _ =>
  (θ_run Cert.GlaInRefIdeal.defs _ _).mono (fun r h => ⟨fun c => (h c).2.2, sem_eq_zero_of_no_sems (by decide) r.2⟩)
    (Cert.GlaInRefIdeal.Value.run m ρ)

theorem gdnOutRef_frame : Cert.quiescent_GdnOutRefIdeal (hGdnOutRefIdeal := Cert.GdnOutRefIdeal.Gen.facts) := fun m ρ _ =>
  (θ_run Cert.GdnOutRefIdeal.defs _ _).mono (fun r h => ⟨fun c => (h c).2, sem_eq_zero_of_no_sems (by decide) r.2⟩)
    (Cert.GdnOutRefIdeal.Value.run m ρ)

theorem glaOutRef_frame : Cert.quiescent_GlaOutRefIdeal (hGlaOutRefIdeal := Cert.GlaOutRefIdeal.Gen.facts) := fun m ρ _ =>
  (θ_run Cert.GlaOutRefIdeal.defs _ _).mono (fun r h => ⟨fun c => (h c).2, sem_eq_zero_of_no_sems (by decide) r.2⟩)
    (Cert.GlaOutRefIdeal.Value.run m ρ)

theorem gluRef_frame : Cert.quiescent_GluRefIdeal (hGluRefIdeal := Cert.GluRefIdeal.Gen.facts) := fun m ρ _ =>
  (θ_run Cert.GluRefIdeal.defs _ _).mono (fun r h => ⟨fun c => (h c).2, sem_eq_zero_of_no_sems (by decide) r.2⟩)
    (Cert.GluRefIdeal.Value.run m ρ)

/-! The results agree. -/

theorem ffn_value : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    obtain ⟨h0, h1, h2, h3, h4⟩ := hagree c
    refine (Cert.FfnRefIdeal.Value.res_eq m' c).trans ?_
    rw [h0, h1, h2, h3, h4]
    exact (Cert.FfnIdeal.Value.final m c).symm

/-- The two results of the recurrence agree on a device whose arguments agree. -/
theorem scan_same (m : (ℓ : Loc Cert.ScanIdeal.nD Cert.ScanIdeal.τ Cert.ScanIdeal.sig) → Buf (Elt Ideal) ℓ)
    (m' : (ℓ : Loc Cert.ScanRefIdeal.nD Cert.ScanRefIdeal.τ Cert.ScanRefIdeal.sig) → Buf (Elt Ideal) ℓ) (c : Dev Cert.ScanIdeal.nD)
    (hpre : Cert.Pre_scan_pre.fn (F := Ideal) (m ((c.tc : Thread Cert.ScanIdeal.nD Cert.ScanIdeal.τ).loc Cert.ScanIdeal.main_arg0))
      (m ((c.tc : Thread Cert.ScanIdeal.nD Cert.ScanIdeal.τ).loc Cert.ScanIdeal.main_arg1))
      (m ((c.tc : Thread Cert.ScanIdeal.nD Cert.ScanIdeal.τ).loc Cert.ScanIdeal.main_arg2))
      (m ((c.tc : Thread Cert.ScanIdeal.nD Cert.ScanIdeal.τ).loc Cert.ScanIdeal.main_arg3))
      (m ((c.tc : Thread Cert.ScanIdeal.nD Cert.ScanIdeal.τ).loc Cert.ScanIdeal.main_arg4))
      (m ((c.tc : Thread Cert.ScanIdeal.nD Cert.ScanIdeal.τ).loc Cert.ScanIdeal.main_arg5))
      (m ((c.tc : Thread Cert.ScanIdeal.nD Cert.ScanIdeal.τ).loc Cert.ScanIdeal.main_arg6))
      (m ((c.tc : Thread Cert.ScanIdeal.nD Cert.ScanIdeal.τ).loc Cert.ScanIdeal.main_arg7))
      (m ((c.tc : Thread Cert.ScanIdeal.nD Cert.ScanIdeal.τ).loc Cert.ScanIdeal.main_arg8)) = (fun _ => 1#1)) (hagree : m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)) :
    Cert.ScanRefIdeal.Value.out_main_v67 (Cert.ScanRefIdeal.Value.STEP^[8192] (StableHlo.entryContents Cert.ScanRefIdeal.Value.preI m' c))
      = Cert.ScanIdeal.Value.G8 m c :=
  have h := Cert.Scan.args_pre _ _ _ _ _ _ _ _ _ hpre
  Cert.Scan.same _ m m' c h (Cert.Scan.args_eq h hagree.1 hagree.2.1 hagree.2.2.1 hagree.2.2.2.1 hagree.2.2.2.2.1 hagree.2.2.2.2.2.1 hagree.2.2.2.2.2.2.1 hagree.2.2.2.2.2.2.2.1 hagree.2.2.2.2.2.2.2.2)

theorem scan_value : Cert.algebraic_ScanIdeal_ScanRefIdeal_pre_scan_pre (hScanIdeal := Cert.ScanIdeal.Gen.facts)
    (hScanRefIdeal := Cert.ScanRefIdeal.Gen.facts) (hPre_scan_pre := Cert.Pre_scan_pre.Gen.facts) := by
  intro m g m' g' hpre hagree
  exact ⟨fun c => Cert.ScanIdeal.Value.G8 m c, Cert.ScanIdeal.Value.run m g,
    (θ_run Cert.ScanRefIdeal.defs _ _).mono (fun r h c => ⟨(h c).1.trans (scan_same m m' c (hpre c) (hagree c)), (h c).2⟩)
      (Cert.ScanRefIdeal.Value.run m' g')⟩

theorem gdnIn_value : Cert.algebraic_GdnInIdeal_GdnInRefIdeal (hGdnInIdeal := Cert.GdnInIdeal.Gen.facts)
    (hGdnInRefIdeal := Cert.GdnInRefIdeal.Gen.facts) := by
  intro m g m' g' hpre hagree
  refine ⟨fun c => Cert.GdnInRefIdeal.Value.wideOf (m ((c.tc : Thread Cert.GdnInIdeal.nD Cert.GdnInIdeal.τ).loc Cert.GdnInIdeal.main_arg0))
      (m ((c.tc : Thread Cert.GdnInIdeal.nD Cert.GdnInIdeal.τ).loc Cert.GdnInIdeal.main_arg1)),
    fun c => Cert.GdnInRefIdeal.Value.lastOf (m ((c.tc : Thread Cert.GdnInIdeal.nD Cert.GdnInIdeal.τ).loc Cert.GdnInIdeal.main_arg0))
      (m ((c.tc : Thread Cert.GdnInIdeal.nD Cert.GdnInIdeal.τ).loc Cert.GdnInIdeal.main_arg1)), ?_, ?_⟩
  · refine (θ_run Cert.GdnInIdeal.defs _ _).mono (fun r h c => ?_) (Cert.GdnInIdeal.Proj.run_main m g)
    exact ⟨((h c).1 3).trans (Cert.GdnInIdeal.Proj.final_wide m c), ((h c).1 4).trans (Cert.GdnInIdeal.Proj.final_last m c),
      Cert.GdnInIdeal.Proj.kept_args m r h c⟩
  · refine (θ_run Cert.GdnInRefIdeal.defs _ _).mono (fun r h c => ?_) (Cert.GdnInRefIdeal.Value.res_eq m' g')
    obtain ⟨h0, h1⟩ := hagree c
    have e := h c
    refine ⟨e.1.trans ?_, e.2.1.trans ?_, e.2.2⟩
    · rw [h0, h1]
    · rw [h0, h1]

theorem glaIn_value : Cert.algebraic_GlaInIdeal_GlaInRefIdeal (hGlaInIdeal := Cert.GlaInIdeal.Gen.facts)
    (hGlaInRefIdeal := Cert.GlaInRefIdeal.Gen.facts) := by
  intro m g m' g' hpre hagree
  refine ⟨fun c => Cert.GlaInRefIdeal.Value.wideOf (m ((c.tc : Thread Cert.GlaInIdeal.nD Cert.GlaInIdeal.τ).loc Cert.GlaInIdeal.main_arg0))
      (m ((c.tc : Thread Cert.GlaInIdeal.nD Cert.GlaInIdeal.τ).loc Cert.GlaInIdeal.main_arg1)),
    fun c => Cert.GlaInRefIdeal.Value.lastOf (m ((c.tc : Thread Cert.GlaInIdeal.nD Cert.GlaInIdeal.τ).loc Cert.GlaInIdeal.main_arg0))
      (m ((c.tc : Thread Cert.GlaInIdeal.nD Cert.GlaInIdeal.τ).loc Cert.GlaInIdeal.main_arg1)), ?_, ?_⟩
  · refine (θ_run Cert.GlaInIdeal.defs _ _).mono (fun r h c => ?_) (Cert.GlaInIdeal.Proj.run_main m g)
    exact ⟨((h c).1 3).trans (Cert.GlaInIdeal.Proj.final_wide m c), ((h c).1 4).trans (Cert.GlaInIdeal.Proj.final_last m c),
      Cert.GlaInIdeal.Proj.kept_args m r h c⟩
  · refine (θ_run Cert.GlaInRefIdeal.defs _ _).mono (fun r h c => ?_) (Cert.GlaInRefIdeal.Value.res_eq m' g')
    obtain ⟨h0, h1⟩ := hagree c
    have e := h c
    refine ⟨e.1.trans ?_, e.2.1.trans ?_, e.2.2⟩
    · rw [h0, h1]
    · rw [h0, h1]

theorem gdnOut_value : Cert.algebraic_GdnOutIdeal_GdnOutRefIdeal (hGdnOutIdeal := Cert.GdnOutIdeal.Gen.facts)
    (hGdnOutRefIdeal := Cert.GdnOutRefIdeal.Gen.facts) := by
  pair_intro
  · run_from Cert.GdnOutIdeal.Gen.run_main m g
  · run_from Cert.GdnOutRefIdeal.Value.run m' g'
    obtain ⟨h0, h1, h2, h3, h4⟩ := hagree c
    refine (Cert.GdnOutRefIdeal.Value.res_eq m' c).trans ?_
    rw [h0, h1, h2, h3, h4]
    exact (Cert.GdnOutIdeal.Value.final m c).symm

theorem glaOut_value : Cert.algebraic_GlaOutIdeal_GlaOutRefIdeal (hGlaOutIdeal := Cert.GlaOutIdeal.Gen.facts)
    (hGlaOutRefIdeal := Cert.GlaOutRefIdeal.Gen.facts) := by
  pair_intro
  · run_from Cert.GlaOutIdeal.Gen.run_main m g
  · run_from Cert.GlaOutRefIdeal.Value.run m' g'
    obtain ⟨h0, h1, h2, h3, h4⟩ := hagree c
    refine (Cert.GlaOutRefIdeal.Value.res_eq m' c).trans ?_
    rw [h0, h1, h2, h3, h4]
    exact (Cert.GlaOutIdeal.Value.final m c).symm

theorem glu_value : Cert.algebraic_GluIdeal_GluRefIdeal (hGluIdeal := Cert.GluIdeal.Gen.facts)
    (hGluRefIdeal := Cert.GluRefIdeal.Gen.facts) := by
  pair_intro
  · run_from Cert.GluIdeal.Gen.run_main m g
  · run_from Cert.GluRefIdeal.Value.run m' g'
    obtain ⟨h0, h1, h2, h3, h4⟩ := hagree c
    refine (Cert.GluRefIdeal.Value.res_eq m' c).trans ?_
    rw [h0, h1, h2, h3, h4]
    exact (Cert.GluIdeal.Value.final m c).symm

theorem claim : Cert.Claim := ⟨Cert.Ffn.Gen.facts, Cert.FfnIdeal.Gen.facts, Cert.FfnRefIdeal.Gen.facts, Cert.Scan.Gen.facts, Cert.ScanIdeal.Gen.facts,
  Cert.ScanRefIdeal.Gen.facts, Cert.GdnIn.Gen.facts, Cert.GdnInIdeal.Gen.facts, Cert.GdnInRefIdeal.Gen.facts,
  Cert.GlaIn.Gen.facts, Cert.GlaInIdeal.Gen.facts, Cert.GlaInRefIdeal.Gen.facts, Cert.GdnOut.Gen.facts, Cert.GdnOutIdeal.Gen.facts, Cert.GdnOutRefIdeal.Gen.facts,
  Cert.GlaOut.Gen.facts, Cert.GlaOutIdeal.Gen.facts, Cert.GlaOutRefIdeal.Gen.facts, Cert.Glu.Gen.facts,
  Cert.GluIdeal.Gen.facts, Cert.GluRefIdeal.Gen.facts, Cert.Gla.Gen.facts, Cert.GlaIdeal.Gen.facts, Cert.Gdn.Gen.facts,
  Cert.GdnIdeal.Gen.facts, Cert.Pre_scan_pre.Gen.facts, fun m ρ _ => Cert.Ffn.Gen.frame m ρ,
  fun m ρ _ => Cert.FfnIdeal.Gen.frame m ρ, ffnRef_frame, fun m ρ _ => Cert.Scan.Gen.frame m ρ, fun m ρ _ =>
  Cert.ScanIdeal.Gen.frame m ρ, fun m ρ _ => Cert.ScanIdeal.Gen.frame m ρ, scanRef_frame, fun m ρ _ => scanRef_frame m ρ
  trivial, fun m ρ _ => Cert.GdnIn.Proj.whole m ρ, fun m ρ _ => Cert.GdnInIdeal.Proj.whole m ρ, gdnInRef_frame,
  fun m ρ _ => Cert.GlaIn.Proj.whole m ρ, fun m ρ _ => Cert.GlaInIdeal.Proj.whole m ρ, glaInRef_frame,
  fun m ρ _ => Cert.GdnOut.Gen.frame m ρ, fun m ρ _ => Cert.GdnOutIdeal.Gen.frame m ρ, gdnOutRef_frame, fun m ρ
  _ => Cert.GlaOut.Gen.frame m ρ, fun m ρ _ => Cert.GlaOutIdeal.Gen.frame m ρ, glaOutRef_frame, fun m ρ _ =>
  Cert.Glu.Gen.frame m ρ, fun m ρ _ => Cert.GluIdeal.Gen.frame m ρ, gluRef_frame,
  fun m ρ _ => Cert.Gla.Run.whole m ρ, fun m ρ _ => Cert.GlaIdeal.Run.whole m ρ, fun m ρ _ => Cert.Gdn.Gen.frame m ρ,
  fun m ρ _ => Cert.GdnIdeal.Gen.frame m ρ, trivial, ffn_value, trivial,
  scan_value, trivial, gdnIn_value, trivial, glaIn_value, trivial, gdnOut_value, trivial, glaOut_value, trivial, glu_value, trivial, trivial⟩

end Cert.Proof

end
